-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2x5456x80 : Shape := ⟨3, ![2, 5456, 80]⟩
abbrev S2x5456x4 : Shape := ⟨3, ![2, 5456, 4]⟩
abbrev S2x8x5 : Shape := ⟨3, ![2, 8, 5]⟩
abbrev S2x3x512x512 : Shape := ⟨4, ![2, 3, 512, 512]⟩
abbrev S5456 : Shape := ⟨1, ![5456]⟩
abbrev S_ : Shape := ⟨0, ![]⟩
abbrev S2x8x4 : Shape := ⟨3, ![2, 8, 4]⟩
abbrev S2x8x1 : Shape := ⟨3, ![2, 8, 1]⟩
abbrev S2x8 : Shape := ⟨2, ![2, 8]⟩

class Facts : Prop where
  slices_S2x8x5_S2x8x4_0_0_0 : S2x8x5.Slices ![0, 0, 0] S2x8x4
  slices_S2x8x5_S2x8x1_0_0_4 : S2x8x5.Slices ![0, 0, 4] S2x8x1
  shapeCasts_S2x8x1_S2x8 : S2x8x1.ShapeCasts S2x8
  bcast_S_S2x5456x80 : S_.BroadcastsInDim S2x5456x80 (![] : Fin 0 → Fin S2x5456x80.rank)
  bcast_S_S2x8x4 : S_.BroadcastsInDim S2x8x4 (![] : Fin 0 → Fin S2x8x4.rank)
  bcast_S_S2x8 : S_.BroadcastsInDim S2x8 (![] : Fin 0 → Fin S2x8.rank)

variable [Facts]

noncomputable abbrev lit0t0_0 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_1 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_2 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_3 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_4 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_5 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_6 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_7 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_8 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_9 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_10 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_11 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_12 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_13 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_14 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_15 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_16 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_17 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_18 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_19 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_20 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_21 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_22 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_23 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_24 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_25 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_26 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_27 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_28 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_29 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_30 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_31 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 32#32
  | 33 => 33#32
  | 34 => 34#32
  | 35 => 35#32
  | 36 => 36#32
  | 37 => 37#32
  | 38 => 38#32
  | 39 => 39#32
  | 40 => 40#32
  | 41 => 41#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 53#32
  | 54 => 54#32
  | 55 => 55#32
  | 56 => 56#32
  | 57 => 57#32
  | 58 => 58#32
  | 59 => 59#32
  | 60 => 60#32
  | 61 => 61#32
  | 62 => 62#32
  | 63 => 63#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 32#32
  | 97 => 33#32
  | 98 => 34#32
  | 99 => 35#32
  | 100 => 36#32
  | 101 => 37#32
  | 102 => 38#32
  | 103 => 39#32
  | 104 => 40#32
  | 105 => 41#32
  | 106 => 42#32
  | 107 => 43#32
  | 108 => 44#32
  | 109 => 45#32
  | 110 => 46#32
  | 111 => 47#32
  | 112 => 48#32
  | 113 => 49#32
  | 114 => 50#32
  | 115 => 51#32
  | 116 => 52#32
  | 117 => 53#32
  | 118 => 54#32
  | 119 => 55#32
  | 120 => 56#32
  | 121 => 57#32
  | 122 => 58#32
  | 123 => 59#32
  | 124 => 60#32
  | 125 => 61#32
  | 126 => 62#32
  | 127 => 63#32
  | _ => 0#32

noncomputable abbrev lit0t0_32 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_33 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_34 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_35 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_36 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_37 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_38 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_39 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 16#32
  | 17 => 17#32
  | 18 => 18#32
  | 19 => 19#32
  | 20 => 20#32
  | 21 => 21#32
  | 22 => 22#32
  | 23 => 23#32
  | 24 => 24#32
  | 25 => 25#32
  | 26 => 26#32
  | 27 => 27#32
  | 28 => 28#32
  | 29 => 29#32
  | 30 => 30#32
  | 31 => 31#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 16#32
  | 49 => 17#32
  | 50 => 18#32
  | 51 => 19#32
  | 52 => 20#32
  | 53 => 21#32
  | 54 => 22#32
  | 55 => 23#32
  | 56 => 24#32
  | 57 => 25#32
  | 58 => 26#32
  | 59 => 27#32
  | 60 => 28#32
  | 61 => 29#32
  | 62 => 30#32
  | 63 => 31#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 16#32
  | 81 => 17#32
  | 82 => 18#32
  | 83 => 19#32
  | 84 => 20#32
  | 85 => 21#32
  | 86 => 22#32
  | 87 => 23#32
  | 88 => 24#32
  | 89 => 25#32
  | 90 => 26#32
  | 91 => 27#32
  | 92 => 28#32
  | 93 => 29#32
  | 94 => 30#32
  | 95 => 31#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit0t0_40 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 0#32
  | 17 => 1#32
  | 18 => 2#32
  | 19 => 3#32
  | 20 => 4#32
  | 21 => 5#32
  | 22 => 6#32
  | 23 => 7#32
  | 24 => 8#32
  | 25 => 9#32
  | 26 => 10#32
  | 27 => 11#32
  | 28 => 12#32
  | 29 => 13#32
  | 30 => 14#32
  | 31 => 15#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 0#32
  | 49 => 1#32
  | 50 => 2#32
  | 51 => 3#32
  | 52 => 4#32
  | 53 => 5#32
  | 54 => 6#32
  | 55 => 7#32
  | 56 => 8#32
  | 57 => 9#32
  | 58 => 10#32
  | 59 => 11#32
  | 60 => 12#32
  | 61 => 13#32
  | 62 => 14#32
  | 63 => 15#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 0#32
  | 81 => 1#32
  | 82 => 2#32
  | 83 => 3#32
  | 84 => 4#32
  | 85 => 5#32
  | 86 => 6#32
  | 87 => 7#32
  | 88 => 8#32
  | 89 => 9#32
  | 90 => 10#32
  | 91 => 11#32
  | 92 => 12#32
  | 93 => 13#32
  | 94 => 14#32
  | 95 => 15#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 0#32
  | 113 => 1#32
  | 114 => 2#32
  | 115 => 3#32
  | 116 => 4#32
  | 117 => 5#32
  | 118 => 6#32
  | 119 => 7#32
  | 120 => 8#32
  | 121 => 9#32
  | 122 => 10#32
  | 123 => 11#32
  | 124 => 12#32
  | 125 => 13#32
  | 126 => 14#32
  | 127 => 15#32
  | _ => 0#32

noncomputable abbrev lit0t0_41 (i : Nat) : BitVec 32 := match i % 128 with
  | 0 => 0#32
  | 1 => 1#32
  | 2 => 2#32
  | 3 => 3#32
  | 4 => 4#32
  | 5 => 5#32
  | 6 => 6#32
  | 7 => 7#32
  | 8 => 8#32
  | 9 => 9#32
  | 10 => 10#32
  | 11 => 11#32
  | 12 => 12#32
  | 13 => 13#32
  | 14 => 14#32
  | 15 => 15#32
  | 16 => 0#32
  | 17 => 1#32
  | 18 => 2#32
  | 19 => 3#32
  | 20 => 4#32
  | 21 => 5#32
  | 22 => 6#32
  | 23 => 7#32
  | 24 => 8#32
  | 25 => 9#32
  | 26 => 10#32
  | 27 => 11#32
  | 28 => 12#32
  | 29 => 13#32
  | 30 => 14#32
  | 31 => 15#32
  | 32 => 0#32
  | 33 => 1#32
  | 34 => 2#32
  | 35 => 3#32
  | 36 => 4#32
  | 37 => 5#32
  | 38 => 6#32
  | 39 => 7#32
  | 40 => 8#32
  | 41 => 9#32
  | 42 => 10#32
  | 43 => 11#32
  | 44 => 12#32
  | 45 => 13#32
  | 46 => 14#32
  | 47 => 15#32
  | 48 => 0#32
  | 49 => 1#32
  | 50 => 2#32
  | 51 => 3#32
  | 52 => 4#32
  | 53 => 5#32
  | 54 => 6#32
  | 55 => 7#32
  | 56 => 8#32
  | 57 => 9#32
  | 58 => 10#32
  | 59 => 11#32
  | 60 => 12#32
  | 61 => 13#32
  | 62 => 14#32
  | 63 => 15#32
  | 64 => 0#32
  | 65 => 1#32
  | 66 => 2#32
  | 67 => 3#32
  | 68 => 4#32
  | 69 => 5#32
  | 70 => 6#32
  | 71 => 7#32
  | 72 => 8#32
  | 73 => 9#32
  | 74 => 10#32
  | 75 => 11#32
  | 76 => 12#32
  | 77 => 13#32
  | 78 => 14#32
  | 79 => 15#32
  | 80 => 0#32
  | 81 => 1#32
  | 82 => 2#32
  | 83 => 3#32
  | 84 => 4#32
  | 85 => 5#32
  | 86 => 6#32
  | 87 => 7#32
  | 88 => 8#32
  | 89 => 9#32
  | 90 => 10#32
  | 91 => 11#32
  | 92 => 12#32
  | 93 => 13#32
  | 94 => 14#32
  | 95 => 15#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 0#32
  | 113 => 1#32
  | 114 => 2#32
  | 115 => 3#32
  | 116 => 4#32
  | 117 => 5#32
  | 118 => 6#32
  | 119 => 7#32
  | 120 => 8#32
  | 121 => 9#32
  | 122 => 10#32
  | 123 => 11#32
  | 124 => 12#32
  | 125 => 13#32
  | 126 => 14#32
  | 127 => 15#32
  | _ => 0#32

noncomputable abbrev lit0t0_42 (i : Nat) : BitVec 32 := match i % 128 with
  | 0 => 0#32
  | 1 => 1#32
  | 2 => 2#32
  | 3 => 3#32
  | 4 => 4#32
  | 5 => 5#32
  | 6 => 6#32
  | 7 => 7#32
  | 8 => 0#32
  | 9 => 1#32
  | 10 => 2#32
  | 11 => 3#32
  | 12 => 4#32
  | 13 => 5#32
  | 14 => 6#32
  | 15 => 7#32
  | 16 => 0#32
  | 17 => 1#32
  | 18 => 2#32
  | 19 => 3#32
  | 20 => 4#32
  | 21 => 5#32
  | 22 => 6#32
  | 23 => 7#32
  | 24 => 0#32
  | 25 => 1#32
  | 26 => 2#32
  | 27 => 3#32
  | 28 => 4#32
  | 29 => 5#32
  | 30 => 6#32
  | 31 => 7#32
  | 32 => 0#32
  | 33 => 1#32
  | 34 => 2#32
  | 35 => 3#32
  | 36 => 4#32
  | 37 => 5#32
  | 38 => 6#32
  | 39 => 7#32
  | 40 => 0#32
  | 41 => 1#32
  | 42 => 2#32
  | 43 => 3#32
  | 44 => 4#32
  | 45 => 5#32
  | 46 => 6#32
  | 47 => 7#32
  | 48 => 0#32
  | 49 => 1#32
  | 50 => 2#32
  | 51 => 3#32
  | 52 => 4#32
  | 53 => 5#32
  | 54 => 6#32
  | 55 => 7#32
  | 56 => 0#32
  | 57 => 1#32
  | 58 => 2#32
  | 59 => 3#32
  | 60 => 4#32
  | 61 => 5#32
  | 62 => 6#32
  | 63 => 7#32
  | 64 => 0#32
  | 65 => 1#32
  | 66 => 2#32
  | 67 => 3#32
  | 68 => 0#32
  | 69 => 1#32
  | 70 => 2#32
  | 71 => 3#32
  | 72 => 0#32
  | 73 => 1#32
  | 74 => 2#32
  | 75 => 3#32
  | 76 => 0#32
  | 77 => 1#32
  | 78 => 2#32
  | 79 => 3#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | _ => 0#32

noncomputable abbrev lit0 : Fin 5456 → BitVec 32 := fun ⟨i, _⟩ => lit0t i

noncomputable abbrev lit1t0_0 (i : Nat) : BitVec 32 := match i % 128 with
  | 0 => 0#32
  | 1 => 0#32
  | 2 => 0#32
  | 3 => 0#32
  | 4 => 0#32
  | 5 => 0#32
  | 6 => 0#32
  | 7 => 0#32
  | 8 => 0#32
  | 9 => 0#32
  | 10 => 0#32
  | 11 => 0#32
  | 12 => 0#32
  | 13 => 0#32
  | 14 => 0#32
  | 15 => 0#32
  | 16 => 0#32
  | 17 => 0#32
  | 18 => 0#32
  | 19 => 0#32
  | 20 => 0#32
  | 21 => 0#32
  | 22 => 0#32
  | 23 => 0#32
  | 24 => 0#32
  | 25 => 0#32
  | 26 => 0#32
  | 27 => 0#32
  | 28 => 0#32
  | 29 => 0#32
  | 30 => 0#32
  | 31 => 0#32
  | 32 => 0#32
  | 33 => 0#32
  | 34 => 0#32
  | 35 => 0#32
  | 36 => 0#32
  | 37 => 0#32
  | 38 => 0#32
  | 39 => 0#32
  | 40 => 0#32
  | 41 => 0#32
  | 42 => 0#32
  | 43 => 0#32
  | 44 => 0#32
  | 45 => 0#32
  | 46 => 0#32
  | 47 => 0#32
  | 48 => 0#32
  | 49 => 0#32
  | 50 => 0#32
  | 51 => 0#32
  | 52 => 0#32
  | 53 => 0#32
  | 54 => 0#32
  | 55 => 0#32
  | 56 => 0#32
  | 57 => 0#32
  | 58 => 0#32
  | 59 => 0#32
  | 60 => 0#32
  | 61 => 0#32
  | 62 => 0#32
  | 63 => 0#32
  | 64 => 1#32
  | 65 => 1#32
  | 66 => 1#32
  | 67 => 1#32
  | 68 => 1#32
  | 69 => 1#32
  | 70 => 1#32
  | 71 => 1#32
  | 72 => 1#32
  | 73 => 1#32
  | 74 => 1#32
  | 75 => 1#32
  | 76 => 1#32
  | 77 => 1#32
  | 78 => 1#32
  | 79 => 1#32
  | 80 => 1#32
  | 81 => 1#32
  | 82 => 1#32
  | 83 => 1#32
  | 84 => 1#32
  | 85 => 1#32
  | 86 => 1#32
  | 87 => 1#32
  | 88 => 1#32
  | 89 => 1#32
  | 90 => 1#32
  | 91 => 1#32
  | 92 => 1#32
  | 93 => 1#32
  | 94 => 1#32
  | 95 => 1#32
  | 96 => 1#32
  | 97 => 1#32
  | 98 => 1#32
  | 99 => 1#32
  | 100 => 1#32
  | 101 => 1#32
  | 102 => 1#32
  | 103 => 1#32
  | 104 => 1#32
  | 105 => 1#32
  | 106 => 1#32
  | 107 => 1#32
  | 108 => 1#32
  | 109 => 1#32
  | 110 => 1#32
  | 111 => 1#32
  | 112 => 1#32
  | 113 => 1#32
  | 114 => 1#32
  | 115 => 1#32
  | 116 => 1#32
  | 117 => 1#32
  | 118 => 1#32
  | 119 => 1#32
  | 120 => 1#32
  | 121 => 1#32
  | 122 => 1#32
  | 123 => 1#32
  | 124 => 1#32
  | 125 => 1#32
  | 126 => 1#32
  | 127 => 1#32
  | _ => 0#32

noncomputable abbrev lit1t0_1 (i : Nat) : BitVec 32 := match i % 128 with
  | 0 => 2#32
  | 1 => 2#32
  | 2 => 2#32
  | 3 => 2#32
  | 4 => 2#32
  | 5 => 2#32
  | 6 => 2#32
  | 7 => 2#32
  | 8 => 2#32
  | 9 => 2#32
  | 10 => 2#32
  | 11 => 2#32
  | 12 => 2#32
  | 13 => 2#32
  | 14 => 2#32
  | 15 => 2#32
  | 16 => 2#32
  | 17 => 2#32
  | 18 => 2#32
  | 19 => 2#32
  | 20 => 2#32
  | 21 => 2#32
  | 22 => 2#32
  | 23 => 2#32
  | 24 => 2#32
  | 25 => 2#32
  | 26 => 2#32
  | 27 => 2#32
  | 28 => 2#32
  | 29 => 2#32
  | 30 => 2#32
  | 31 => 2#32
  | 32 => 2#32
  | 33 => 2#32
  | 34 => 2#32
  | 35 => 2#32
  | 36 => 2#32
  | 37 => 2#32
  | 38 => 2#32
  | 39 => 2#32
  | 40 => 2#32
  | 41 => 2#32
  | 42 => 2#32
  | 43 => 2#32
  | 44 => 2#32
  | 45 => 2#32
  | 46 => 2#32
  | 47 => 2#32
  | 48 => 2#32
  | 49 => 2#32
  | 50 => 2#32
  | 51 => 2#32
  | 52 => 2#32
  | 53 => 2#32
  | 54 => 2#32
  | 55 => 2#32
  | 56 => 2#32
  | 57 => 2#32
  | 58 => 2#32
  | 59 => 2#32
  | 60 => 2#32
  | 61 => 2#32
  | 62 => 2#32
  | 63 => 2#32
  | 64 => 3#32
  | 65 => 3#32
  | 66 => 3#32
  | 67 => 3#32
  | 68 => 3#32
  | 69 => 3#32
  | 70 => 3#32
  | 71 => 3#32
  | 72 => 3#32
  | 73 => 3#32
  | 74 => 3#32
  | 75 => 3#32
  | 76 => 3#32
  | 77 => 3#32
  | 78 => 3#32
  | 79 => 3#32
  | 80 => 3#32
  | 81 => 3#32
  | 82 => 3#32
  | 83 => 3#32
  | 84 => 3#32
  | 85 => 3#32
  | 86 => 3#32
  | 87 => 3#32
  | 88 => 3#32
  | 89 => 3#32
  | 90 => 3#32
  | 91 => 3#32
  | 92 => 3#32
  | 93 => 3#32
  | 94 => 3#32
  | 95 => 3#32
  | 96 => 3#32
  | 97 => 3#32
  | 98 => 3#32
  | 99 => 3#32
  | 100 => 3#32
  | 101 => 3#32
  | 102 => 3#32
  | 103 => 3#32
  | 104 => 3#32
  | 105 => 3#32
  | 106 => 3#32
  | 107 => 3#32
  | 108 => 3#32
  | 109 => 3#32
  | 110 => 3#32
  | 111 => 3#32
  | 112 => 3#32
  | 113 => 3#32
  | 114 => 3#32
  | 115 => 3#32
  | 116 => 3#32
  | 117 => 3#32
  | 118 => 3#32
  | 119 => 3#32
  | 120 => 3#32
  | 121 => 3#32
  | 122 => 3#32
  | 123 => 3#32
  | 124 => 3#32
  | 125 => 3#32
  | 126 => 3#32
  | 127 => 3#32
  | _ => 0#32

noncomputable abbrev lit1t0_2 (i : Nat) : BitVec 32 := match i % 128 with
  | 0 => 4#32
  | 1 => 4#32
  | 2 => 4#32
  | 3 => 4#32
  | 4 => 4#32
  | 5 => 4#32
  | 6 => 4#32
  | 7 => 4#32
  | 8 => 4#32
  | 9 => 4#32
  | 10 => 4#32
  | 11 => 4#32
  | 12 => 4#32
  | 13 => 4#32
  | 14 => 4#32
  | 15 => 4#32
  | 16 => 4#32
  | 17 => 4#32
  | 18 => 4#32
  | 19 => 4#32
  | 20 => 4#32
  | 21 => 4#32
  | 22 => 4#32
  | 23 => 4#32
  | 24 => 4#32
  | 25 => 4#32
  | 26 => 4#32
  | 27 => 4#32
  | 28 => 4#32
  | 29 => 4#32
  | 30 => 4#32
  | 31 => 4#32
  | 32 => 4#32
  | 33 => 4#32
  | 34 => 4#32
  | 35 => 4#32
  | 36 => 4#32
  | 37 => 4#32
  | 38 => 4#32
  | 39 => 4#32
  | 40 => 4#32
  | 41 => 4#32
  | 42 => 4#32
  | 43 => 4#32
  | 44 => 4#32
  | 45 => 4#32
  | 46 => 4#32
  | 47 => 4#32
  | 48 => 4#32
  | 49 => 4#32
  | 50 => 4#32
  | 51 => 4#32
  | 52 => 4#32
  | 53 => 4#32
  | 54 => 4#32
  | 55 => 4#32
  | 56 => 4#32
  | 57 => 4#32
  | 58 => 4#32
  | 59 => 4#32
  | 60 => 4#32
  | 61 => 4#32
  | 62 => 4#32
  | 63 => 4#32
  | 64 => 5#32
  | 65 => 5#32
  | 66 => 5#32
  | 67 => 5#32
  | 68 => 5#32
  | 69 => 5#32
  | 70 => 5#32
  | 71 => 5#32
  | 72 => 5#32
  | 73 => 5#32
  | 74 => 5#32
  | 75 => 5#32
  | 76 => 5#32
  | 77 => 5#32
  | 78 => 5#32
  | 79 => 5#32
  | 80 => 5#32
  | 81 => 5#32
  | 82 => 5#32
  | 83 => 5#32
  | 84 => 5#32
  | 85 => 5#32
  | 86 => 5#32
  | 87 => 5#32
  | 88 => 5#32
  | 89 => 5#32
  | 90 => 5#32
  | 91 => 5#32
  | 92 => 5#32
  | 93 => 5#32
  | 94 => 5#32
  | 95 => 5#32
  | 96 => 5#32
  | 97 => 5#32
  | 98 => 5#32
  | 99 => 5#32
  | 100 => 5#32
  | 101 => 5#32
  | 102 => 5#32
  | 103 => 5#32
  | 104 => 5#32
  | 105 => 5#32
  | 106 => 5#32
  | 107 => 5#32
  | 108 => 5#32
  | 109 => 5#32
  | 110 => 5#32
  | 111 => 5#32
  | 112 => 5#32
  | 113 => 5#32
  | 114 => 5#32
  | 115 => 5#32
  | 116 => 5#32
  | 117 => 5#32
  | 118 => 5#32
  | 119 => 5#32
  | 120 => 5#32
  | 121 => 5#32
  | 122 => 5#32
  | 123 => 5#32
  | 124 => 5#32
  | 125 => 5#32
  | 126 => 5#32
  | 127 => 5#32
  | _ => 0#32

noncomputable abbrev lit1t0_3 (i : Nat) : BitVec 32 := match i % 128 with
  | 0 => 6#32
  | 1 => 6#32
  | 2 => 6#32
  | 3 => 6#32
  | 4 => 6#32
  | 5 => 6#32
  | 6 => 6#32
  | 7 => 6#32
  | 8 => 6#32
  | 9 => 6#32
  | 10 => 6#32
  | 11 => 6#32
  | 12 => 6#32
  | 13 => 6#32
  | 14 => 6#32
  | 15 => 6#32
  | 16 => 6#32
  | 17 => 6#32
  | 18 => 6#32
  | 19 => 6#32
  | 20 => 6#32
  | 21 => 6#32
  | 22 => 6#32
  | 23 => 6#32
  | 24 => 6#32
  | 25 => 6#32
  | 26 => 6#32
  | 27 => 6#32
  | 28 => 6#32
  | 29 => 6#32
  | 30 => 6#32
  | 31 => 6#32
  | 32 => 6#32
  | 33 => 6#32
  | 34 => 6#32
  | 35 => 6#32
  | 36 => 6#32
  | 37 => 6#32
  | 38 => 6#32
  | 39 => 6#32
  | 40 => 6#32
  | 41 => 6#32
  | 42 => 6#32
  | 43 => 6#32
  | 44 => 6#32
  | 45 => 6#32
  | 46 => 6#32
  | 47 => 6#32
  | 48 => 6#32
  | 49 => 6#32
  | 50 => 6#32
  | 51 => 6#32
  | 52 => 6#32
  | 53 => 6#32
  | 54 => 6#32
  | 55 => 6#32
  | 56 => 6#32
  | 57 => 6#32
  | 58 => 6#32
  | 59 => 6#32
  | 60 => 6#32
  | 61 => 6#32
  | 62 => 6#32
  | 63 => 6#32
  | 64 => 7#32
  | 65 => 7#32
  | 66 => 7#32
  | 67 => 7#32
  | 68 => 7#32
  | 69 => 7#32
  | 70 => 7#32
  | 71 => 7#32
  | 72 => 7#32
  | 73 => 7#32
  | 74 => 7#32
  | 75 => 7#32
  | 76 => 7#32
  | 77 => 7#32
  | 78 => 7#32
  | 79 => 7#32
  | 80 => 7#32
  | 81 => 7#32
  | 82 => 7#32
  | 83 => 7#32
  | 84 => 7#32
  | 85 => 7#32
  | 86 => 7#32
  | 87 => 7#32
  | 88 => 7#32
  | 89 => 7#32
  | 90 => 7#32
  | 91 => 7#32
  | 92 => 7#32
  | 93 => 7#32
  | 94 => 7#32
  | 95 => 7#32
  | 96 => 7#32
  | 97 => 7#32
  | 98 => 7#32
  | 99 => 7#32
  | 100 => 7#32
  | 101 => 7#32
  | 102 => 7#32
  | 103 => 7#32
  | 104 => 7#32
  | 105 => 7#32
  | 106 => 7#32
  | 107 => 7#32
  | 108 => 7#32
  | 109 => 7#32
  | 110 => 7#32
  | 111 => 7#32
  | 112 => 7#32
  | 113 => 7#32
  | 114 => 7#32
  | 115 => 7#32
  | 116 => 7#32
  | 117 => 7#32
  | 118 => 7#32
  | 119 => 7#32
  | 120 => 7#32
  | 121 => 7#32
  | 122 => 7#32
  | 123 => 7#32
  | 124 => 7#32
  | 125 => 7#32
  | 126 => 7#32
  | 127 => 7#32
  | _ => 0#32

noncomputable abbrev lit1t0_4 (i : Nat) : BitVec 32 := match i % 128 with
  | 0 => 8#32
  | 1 => 8#32
  | 2 => 8#32
  | 3 => 8#32
  | 4 => 8#32
  | 5 => 8#32
  | 6 => 8#32
  | 7 => 8#32
  | 8 => 8#32
  | 9 => 8#32
  | 10 => 8#32
  | 11 => 8#32
  | 12 => 8#32
  | 13 => 8#32
  | 14 => 8#32
  | 15 => 8#32
  | 16 => 8#32
  | 17 => 8#32
  | 18 => 8#32
  | 19 => 8#32
  | 20 => 8#32
  | 21 => 8#32
  | 22 => 8#32
  | 23 => 8#32
  | 24 => 8#32
  | 25 => 8#32
  | 26 => 8#32
  | 27 => 8#32
  | 28 => 8#32
  | 29 => 8#32
  | 30 => 8#32
  | 31 => 8#32
  | 32 => 8#32
  | 33 => 8#32
  | 34 => 8#32
  | 35 => 8#32
  | 36 => 8#32
  | 37 => 8#32
  | 38 => 8#32
  | 39 => 8#32
  | 40 => 8#32
  | 41 => 8#32
  | 42 => 8#32
  | 43 => 8#32
  | 44 => 8#32
  | 45 => 8#32
  | 46 => 8#32
  | 47 => 8#32
  | 48 => 8#32
  | 49 => 8#32
  | 50 => 8#32
  | 51 => 8#32
  | 52 => 8#32
  | 53 => 8#32
  | 54 => 8#32
  | 55 => 8#32
  | 56 => 8#32
  | 57 => 8#32
  | 58 => 8#32
  | 59 => 8#32
  | 60 => 8#32
  | 61 => 8#32
  | 62 => 8#32
  | 63 => 8#32
  | 64 => 9#32
  | 65 => 9#32
  | 66 => 9#32
  | 67 => 9#32
  | 68 => 9#32
  | 69 => 9#32
  | 70 => 9#32
  | 71 => 9#32
  | 72 => 9#32
  | 73 => 9#32
  | 74 => 9#32
  | 75 => 9#32
  | 76 => 9#32
  | 77 => 9#32
  | 78 => 9#32
  | 79 => 9#32
  | 80 => 9#32
  | 81 => 9#32
  | 82 => 9#32
  | 83 => 9#32
  | 84 => 9#32
  | 85 => 9#32
  | 86 => 9#32
  | 87 => 9#32
  | 88 => 9#32
  | 89 => 9#32
  | 90 => 9#32
  | 91 => 9#32
  | 92 => 9#32
  | 93 => 9#32
  | 94 => 9#32
  | 95 => 9#32
  | 96 => 9#32
  | 97 => 9#32
  | 98 => 9#32
  | 99 => 9#32
  | 100 => 9#32
  | 101 => 9#32
  | 102 => 9#32
  | 103 => 9#32
  | 104 => 9#32
  | 105 => 9#32
  | 106 => 9#32
  | 107 => 9#32
  | 108 => 9#32
  | 109 => 9#32
  | 110 => 9#32
  | 111 => 9#32
  | 112 => 9#32
  | 113 => 9#32
  | 114 => 9#32
  | 115 => 9#32
  | 116 => 9#32
  | 117 => 9#32
  | 118 => 9#32
  | 119 => 9#32
  | 120 => 9#32
  | 121 => 9#32
  | 122 => 9#32
  | 123 => 9#32
  | 124 => 9#32
  | 125 => 9#32
  | 126 => 9#32
  | 127 => 9#32
  | _ => 0#32

noncomputable abbrev lit1t0_5 (i : Nat) : BitVec 32 := match i % 128 with
  | 0 => 10#32
  | 1 => 10#32
  | 2 => 10#32
  | 3 => 10#32
  | 4 => 10#32
  | 5 => 10#32
  | 6 => 10#32
  | 7 => 10#32
  | 8 => 10#32
  | 9 => 10#32
  | 10 => 10#32
  | 11 => 10#32
  | 12 => 10#32
  | 13 => 10#32
  | 14 => 10#32
  | 15 => 10#32
  | 16 => 10#32
  | 17 => 10#32
  | 18 => 10#32
  | 19 => 10#32
  | 20 => 10#32
  | 21 => 10#32
  | 22 => 10#32
  | 23 => 10#32
  | 24 => 10#32
  | 25 => 10#32
  | 26 => 10#32
  | 27 => 10#32
  | 28 => 10#32
  | 29 => 10#32
  | 30 => 10#32
  | 31 => 10#32
  | 32 => 10#32
  | 33 => 10#32
  | 34 => 10#32
  | 35 => 10#32
  | 36 => 10#32
  | 37 => 10#32
  | 38 => 10#32
  | 39 => 10#32
  | 40 => 10#32
  | 41 => 10#32
  | 42 => 10#32
  | 43 => 10#32
  | 44 => 10#32
  | 45 => 10#32
  | 46 => 10#32
  | 47 => 10#32
  | 48 => 10#32
  | 49 => 10#32
  | 50 => 10#32
  | 51 => 10#32
  | 52 => 10#32
  | 53 => 10#32
  | 54 => 10#32
  | 55 => 10#32
  | 56 => 10#32
  | 57 => 10#32
  | 58 => 10#32
  | 59 => 10#32
  | 60 => 10#32
  | 61 => 10#32
  | 62 => 10#32
  | 63 => 10#32
  | 64 => 11#32
  | 65 => 11#32
  | 66 => 11#32
  | 67 => 11#32
  | 68 => 11#32
  | 69 => 11#32
  | 70 => 11#32
  | 71 => 11#32
  | 72 => 11#32
  | 73 => 11#32
  | 74 => 11#32
  | 75 => 11#32
  | 76 => 11#32
  | 77 => 11#32
  | 78 => 11#32
  | 79 => 11#32
  | 80 => 11#32
  | 81 => 11#32
  | 82 => 11#32
  | 83 => 11#32
  | 84 => 11#32
  | 85 => 11#32
  | 86 => 11#32
  | 87 => 11#32
  | 88 => 11#32
  | 89 => 11#32
  | 90 => 11#32
  | 91 => 11#32
  | 92 => 11#32
  | 93 => 11#32
  | 94 => 11#32
  | 95 => 11#32
  | 96 => 11#32
  | 97 => 11#32
  | 98 => 11#32
  | 99 => 11#32
  | 100 => 11#32
  | 101 => 11#32
  | 102 => 11#32
  | 103 => 11#32
  | 104 => 11#32
  | 105 => 11#32
  | 106 => 11#32
  | 107 => 11#32
  | 108 => 11#32
  | 109 => 11#32
  | 110 => 11#32
  | 111 => 11#32
  | 112 => 11#32
  | 113 => 11#32
  | 114 => 11#32
  | 115 => 11#32
  | 116 => 11#32
  | 117 => 11#32
  | 118 => 11#32
  | 119 => 11#32
  | 120 => 11#32
  | 121 => 11#32
  | 122 => 11#32
  | 123 => 11#32
  | 124 => 11#32
  | 125 => 11#32
  | 126 => 11#32
  | 127 => 11#32
  | _ => 0#32

noncomputable abbrev lit1t0_6 (i : Nat) : BitVec 32 := match i % 128 with
  | 0 => 12#32
  | 1 => 12#32
  | 2 => 12#32
  | 3 => 12#32
  | 4 => 12#32
  | 5 => 12#32
  | 6 => 12#32
  | 7 => 12#32
  | 8 => 12#32
  | 9 => 12#32
  | 10 => 12#32
  | 11 => 12#32
  | 12 => 12#32
  | 13 => 12#32
  | 14 => 12#32
  | 15 => 12#32
  | 16 => 12#32
  | 17 => 12#32
  | 18 => 12#32
  | 19 => 12#32
  | 20 => 12#32
  | 21 => 12#32
  | 22 => 12#32
  | 23 => 12#32
  | 24 => 12#32
  | 25 => 12#32
  | 26 => 12#32
  | 27 => 12#32
  | 28 => 12#32
  | 29 => 12#32
  | 30 => 12#32
  | 31 => 12#32
  | 32 => 12#32
  | 33 => 12#32
  | 34 => 12#32
  | 35 => 12#32
  | 36 => 12#32
  | 37 => 12#32
  | 38 => 12#32
  | 39 => 12#32
  | 40 => 12#32
  | 41 => 12#32
  | 42 => 12#32
  | 43 => 12#32
  | 44 => 12#32
  | 45 => 12#32
  | 46 => 12#32
  | 47 => 12#32
  | 48 => 12#32
  | 49 => 12#32
  | 50 => 12#32
  | 51 => 12#32
  | 52 => 12#32
  | 53 => 12#32
  | 54 => 12#32
  | 55 => 12#32
  | 56 => 12#32
  | 57 => 12#32
  | 58 => 12#32
  | 59 => 12#32
  | 60 => 12#32
  | 61 => 12#32
  | 62 => 12#32
  | 63 => 12#32
  | 64 => 13#32
  | 65 => 13#32
  | 66 => 13#32
  | 67 => 13#32
  | 68 => 13#32
  | 69 => 13#32
  | 70 => 13#32
  | 71 => 13#32
  | 72 => 13#32
  | 73 => 13#32
  | 74 => 13#32
  | 75 => 13#32
  | 76 => 13#32
  | 77 => 13#32
  | 78 => 13#32
  | 79 => 13#32
  | 80 => 13#32
  | 81 => 13#32
  | 82 => 13#32
  | 83 => 13#32
  | 84 => 13#32
  | 85 => 13#32
  | 86 => 13#32
  | 87 => 13#32
  | 88 => 13#32
  | 89 => 13#32
  | 90 => 13#32
  | 91 => 13#32
  | 92 => 13#32
  | 93 => 13#32
  | 94 => 13#32
  | 95 => 13#32
  | 96 => 13#32
  | 97 => 13#32
  | 98 => 13#32
  | 99 => 13#32
  | 100 => 13#32
  | 101 => 13#32
  | 102 => 13#32
  | 103 => 13#32
  | 104 => 13#32
  | 105 => 13#32
  | 106 => 13#32
  | 107 => 13#32
  | 108 => 13#32
  | 109 => 13#32
  | 110 => 13#32
  | 111 => 13#32
  | 112 => 13#32
  | 113 => 13#32
  | 114 => 13#32
  | 115 => 13#32
  | 116 => 13#32
  | 117 => 13#32
  | 118 => 13#32
  | 119 => 13#32
  | 120 => 13#32
  | 121 => 13#32
  | 122 => 13#32
  | 123 => 13#32
  | 124 => 13#32
  | 125 => 13#32
  | 126 => 13#32
  | 127 => 13#32
  | _ => 0#32

noncomputable abbrev lit1t0_7 (i : Nat) : BitVec 32 := match i % 128 with
  | 0 => 14#32
  | 1 => 14#32
  | 2 => 14#32
  | 3 => 14#32
  | 4 => 14#32
  | 5 => 14#32
  | 6 => 14#32
  | 7 => 14#32
  | 8 => 14#32
  | 9 => 14#32
  | 10 => 14#32
  | 11 => 14#32
  | 12 => 14#32
  | 13 => 14#32
  | 14 => 14#32
  | 15 => 14#32
  | 16 => 14#32
  | 17 => 14#32
  | 18 => 14#32
  | 19 => 14#32
  | 20 => 14#32
  | 21 => 14#32
  | 22 => 14#32
  | 23 => 14#32
  | 24 => 14#32
  | 25 => 14#32
  | 26 => 14#32
  | 27 => 14#32
  | 28 => 14#32
  | 29 => 14#32
  | 30 => 14#32
  | 31 => 14#32
  | 32 => 14#32
  | 33 => 14#32
  | 34 => 14#32
  | 35 => 14#32
  | 36 => 14#32
  | 37 => 14#32
  | 38 => 14#32
  | 39 => 14#32
  | 40 => 14#32
  | 41 => 14#32
  | 42 => 14#32
  | 43 => 14#32
  | 44 => 14#32
  | 45 => 14#32
  | 46 => 14#32
  | 47 => 14#32
  | 48 => 14#32
  | 49 => 14#32
  | 50 => 14#32
  | 51 => 14#32
  | 52 => 14#32
  | 53 => 14#32
  | 54 => 14#32
  | 55 => 14#32
  | 56 => 14#32
  | 57 => 14#32
  | 58 => 14#32
  | 59 => 14#32
  | 60 => 14#32
  | 61 => 14#32
  | 62 => 14#32
  | 63 => 14#32
  | 64 => 15#32
  | 65 => 15#32
  | 66 => 15#32
  | 67 => 15#32
  | 68 => 15#32
  | 69 => 15#32
  | 70 => 15#32
  | 71 => 15#32
  | 72 => 15#32
  | 73 => 15#32
  | 74 => 15#32
  | 75 => 15#32
  | 76 => 15#32
  | 77 => 15#32
  | 78 => 15#32
  | 79 => 15#32
  | 80 => 15#32
  | 81 => 15#32
  | 82 => 15#32
  | 83 => 15#32
  | 84 => 15#32
  | 85 => 15#32
  | 86 => 15#32
  | 87 => 15#32
  | 88 => 15#32
  | 89 => 15#32
  | 90 => 15#32
  | 91 => 15#32
  | 92 => 15#32
  | 93 => 15#32
  | 94 => 15#32
  | 95 => 15#32
  | 96 => 15#32
  | 97 => 15#32
  | 98 => 15#32
  | 99 => 15#32
  | 100 => 15#32
  | 101 => 15#32
  | 102 => 15#32
  | 103 => 15#32
  | 104 => 15#32
  | 105 => 15#32
  | 106 => 15#32
  | 107 => 15#32
  | 108 => 15#32
  | 109 => 15#32
  | 110 => 15#32
  | 111 => 15#32
  | 112 => 15#32
  | 113 => 15#32
  | 114 => 15#32
  | 115 => 15#32
  | 116 => 15#32
  | 117 => 15#32
  | 118 => 15#32
  | 119 => 15#32
  | 120 => 15#32
  | 121 => 15#32
  | 122 => 15#32
  | 123 => 15#32
  | 124 => 15#32
  | 125 => 15#32
  | 126 => 15#32
  | 127 => 15#32
  | _ => 0#32

noncomputable abbrev lit1t0_8 (i : Nat) : BitVec 32 := match i % 128 with
  | 0 => 16#32
  | 1 => 16#32
  | 2 => 16#32
  | 3 => 16#32
  | 4 => 16#32
  | 5 => 16#32
  | 6 => 16#32
  | 7 => 16#32
  | 8 => 16#32
  | 9 => 16#32
  | 10 => 16#32
  | 11 => 16#32
  | 12 => 16#32
  | 13 => 16#32
  | 14 => 16#32
  | 15 => 16#32
  | 16 => 16#32
  | 17 => 16#32
  | 18 => 16#32
  | 19 => 16#32
  | 20 => 16#32
  | 21 => 16#32
  | 22 => 16#32
  | 23 => 16#32
  | 24 => 16#32
  | 25 => 16#32
  | 26 => 16#32
  | 27 => 16#32
  | 28 => 16#32
  | 29 => 16#32
  | 30 => 16#32
  | 31 => 16#32
  | 32 => 16#32
  | 33 => 16#32
  | 34 => 16#32
  | 35 => 16#32
  | 36 => 16#32
  | 37 => 16#32
  | 38 => 16#32
  | 39 => 16#32
  | 40 => 16#32
  | 41 => 16#32
  | 42 => 16#32
  | 43 => 16#32
  | 44 => 16#32
  | 45 => 16#32
  | 46 => 16#32
  | 47 => 16#32
  | 48 => 16#32
  | 49 => 16#32
  | 50 => 16#32
  | 51 => 16#32
  | 52 => 16#32
  | 53 => 16#32
  | 54 => 16#32
  | 55 => 16#32
  | 56 => 16#32
  | 57 => 16#32
  | 58 => 16#32
  | 59 => 16#32
  | 60 => 16#32
  | 61 => 16#32
  | 62 => 16#32
  | 63 => 16#32
  | 64 => 17#32
  | 65 => 17#32
  | 66 => 17#32
  | 67 => 17#32
  | 68 => 17#32
  | 69 => 17#32
  | 70 => 17#32
  | 71 => 17#32
  | 72 => 17#32
  | 73 => 17#32
  | 74 => 17#32
  | 75 => 17#32
  | 76 => 17#32
  | 77 => 17#32
  | 78 => 17#32
  | 79 => 17#32
  | 80 => 17#32
  | 81 => 17#32
  | 82 => 17#32
  | 83 => 17#32
  | 84 => 17#32
  | 85 => 17#32
  | 86 => 17#32
  | 87 => 17#32
  | 88 => 17#32
  | 89 => 17#32
  | 90 => 17#32
  | 91 => 17#32
  | 92 => 17#32
  | 93 => 17#32
  | 94 => 17#32
  | 95 => 17#32
  | 96 => 17#32
  | 97 => 17#32
  | 98 => 17#32
  | 99 => 17#32
  | 100 => 17#32
  | 101 => 17#32
  | 102 => 17#32
  | 103 => 17#32
  | 104 => 17#32
  | 105 => 17#32
  | 106 => 17#32
  | 107 => 17#32
  | 108 => 17#32
  | 109 => 17#32
  | 110 => 17#32
  | 111 => 17#32
  | 112 => 17#32
  | 113 => 17#32
  | 114 => 17#32
  | 115 => 17#32
  | 116 => 17#32
  | 117 => 17#32
  | 118 => 17#32
  | 119 => 17#32
  | 120 => 17#32
  | 121 => 17#32
  | 122 => 17#32
  | 123 => 17#32
  | 124 => 17#32
  | 125 => 17#32
  | 126 => 17#32
  | 127 => 17#32
  | _ => 0#32

noncomputable abbrev lit1t0_9 (i : Nat) : BitVec 32 := match i % 128 with
  | 0 => 18#32
  | 1 => 18#32
  | 2 => 18#32
  | 3 => 18#32
  | 4 => 18#32
  | 5 => 18#32
  | 6 => 18#32
  | 7 => 18#32
  | 8 => 18#32
  | 9 => 18#32
  | 10 => 18#32
  | 11 => 18#32
  | 12 => 18#32
  | 13 => 18#32
  | 14 => 18#32
  | 15 => 18#32
  | 16 => 18#32
  | 17 => 18#32
  | 18 => 18#32
  | 19 => 18#32
  | 20 => 18#32
  | 21 => 18#32
  | 22 => 18#32
  | 23 => 18#32
  | 24 => 18#32
  | 25 => 18#32
  | 26 => 18#32
  | 27 => 18#32
  | 28 => 18#32
  | 29 => 18#32
  | 30 => 18#32
  | 31 => 18#32
  | 32 => 18#32
  | 33 => 18#32
  | 34 => 18#32
  | 35 => 18#32
  | 36 => 18#32
  | 37 => 18#32
  | 38 => 18#32
  | 39 => 18#32
  | 40 => 18#32
  | 41 => 18#32
  | 42 => 18#32
  | 43 => 18#32
  | 44 => 18#32
  | 45 => 18#32
  | 46 => 18#32
  | 47 => 18#32
  | 48 => 18#32
  | 49 => 18#32
  | 50 => 18#32
  | 51 => 18#32
  | 52 => 18#32
  | 53 => 18#32
  | 54 => 18#32
  | 55 => 18#32
  | 56 => 18#32
  | 57 => 18#32
  | 58 => 18#32
  | 59 => 18#32
  | 60 => 18#32
  | 61 => 18#32
  | 62 => 18#32
  | 63 => 18#32
  | 64 => 19#32
  | 65 => 19#32
  | 66 => 19#32
  | 67 => 19#32
  | 68 => 19#32
  | 69 => 19#32
  | 70 => 19#32
  | 71 => 19#32
  | 72 => 19#32
  | 73 => 19#32
  | 74 => 19#32
  | 75 => 19#32
  | 76 => 19#32
  | 77 => 19#32
  | 78 => 19#32
  | 79 => 19#32
  | 80 => 19#32
  | 81 => 19#32
  | 82 => 19#32
  | 83 => 19#32
  | 84 => 19#32
  | 85 => 19#32
  | 86 => 19#32
  | 87 => 19#32
  | 88 => 19#32
  | 89 => 19#32
  | 90 => 19#32
  | 91 => 19#32
  | 92 => 19#32
  | 93 => 19#32
  | 94 => 19#32
  | 95 => 19#32
  | 96 => 19#32
  | 97 => 19#32
  | 98 => 19#32
  | 99 => 19#32
  | 100 => 19#32
  | 101 => 19#32
  | 102 => 19#32
  | 103 => 19#32
  | 104 => 19#32
  | 105 => 19#32
  | 106 => 19#32
  | 107 => 19#32
  | 108 => 19#32
  | 109 => 19#32
  | 110 => 19#32
  | 111 => 19#32
  | 112 => 19#32
  | 113 => 19#32
  | 114 => 19#32
  | 115 => 19#32
  | 116 => 19#32
  | 117 => 19#32
  | 118 => 19#32
  | 119 => 19#32
  | 120 => 19#32
  | 121 => 19#32
  | 122 => 19#32
  | 123 => 19#32
  | 124 => 19#32
  | 125 => 19#32
  | 126 => 19#32
  | 127 => 19#32
  | _ => 0#32

noncomputable abbrev lit1t0_10 (i : Nat) : BitVec 32 := match i % 128 with
  | 0 => 20#32
  | 1 => 20#32
  | 2 => 20#32
  | 3 => 20#32
  | 4 => 20#32
  | 5 => 20#32
  | 6 => 20#32
  | 7 => 20#32
  | 8 => 20#32
  | 9 => 20#32
  | 10 => 20#32
  | 11 => 20#32
  | 12 => 20#32
  | 13 => 20#32
  | 14 => 20#32
  | 15 => 20#32
  | 16 => 20#32
  | 17 => 20#32
  | 18 => 20#32
  | 19 => 20#32
  | 20 => 20#32
  | 21 => 20#32
  | 22 => 20#32
  | 23 => 20#32
  | 24 => 20#32
  | 25 => 20#32
  | 26 => 20#32
  | 27 => 20#32
  | 28 => 20#32
  | 29 => 20#32
  | 30 => 20#32
  | 31 => 20#32
  | 32 => 20#32
  | 33 => 20#32
  | 34 => 20#32
  | 35 => 20#32
  | 36 => 20#32
  | 37 => 20#32
  | 38 => 20#32
  | 39 => 20#32
  | 40 => 20#32
  | 41 => 20#32
  | 42 => 20#32
  | 43 => 20#32
  | 44 => 20#32
  | 45 => 20#32
  | 46 => 20#32
  | 47 => 20#32
  | 48 => 20#32
  | 49 => 20#32
  | 50 => 20#32
  | 51 => 20#32
  | 52 => 20#32
  | 53 => 20#32
  | 54 => 20#32
  | 55 => 20#32
  | 56 => 20#32
  | 57 => 20#32
  | 58 => 20#32
  | 59 => 20#32
  | 60 => 20#32
  | 61 => 20#32
  | 62 => 20#32
  | 63 => 20#32
  | 64 => 21#32
  | 65 => 21#32
  | 66 => 21#32
  | 67 => 21#32
  | 68 => 21#32
  | 69 => 21#32
  | 70 => 21#32
  | 71 => 21#32
  | 72 => 21#32
  | 73 => 21#32
  | 74 => 21#32
  | 75 => 21#32
  | 76 => 21#32
  | 77 => 21#32
  | 78 => 21#32
  | 79 => 21#32
  | 80 => 21#32
  | 81 => 21#32
  | 82 => 21#32
  | 83 => 21#32
  | 84 => 21#32
  | 85 => 21#32
  | 86 => 21#32
  | 87 => 21#32
  | 88 => 21#32
  | 89 => 21#32
  | 90 => 21#32
  | 91 => 21#32
  | 92 => 21#32
  | 93 => 21#32
  | 94 => 21#32
  | 95 => 21#32
  | 96 => 21#32
  | 97 => 21#32
  | 98 => 21#32
  | 99 => 21#32
  | 100 => 21#32
  | 101 => 21#32
  | 102 => 21#32
  | 103 => 21#32
  | 104 => 21#32
  | 105 => 21#32
  | 106 => 21#32
  | 107 => 21#32
  | 108 => 21#32
  | 109 => 21#32
  | 110 => 21#32
  | 111 => 21#32
  | 112 => 21#32
  | 113 => 21#32
  | 114 => 21#32
  | 115 => 21#32
  | 116 => 21#32
  | 117 => 21#32
  | 118 => 21#32
  | 119 => 21#32
  | 120 => 21#32
  | 121 => 21#32
  | 122 => 21#32
  | 123 => 21#32
  | 124 => 21#32
  | 125 => 21#32
  | 126 => 21#32
  | 127 => 21#32
  | _ => 0#32

noncomputable abbrev lit1t0_11 (i : Nat) : BitVec 32 := match i % 128 with
  | 0 => 22#32
  | 1 => 22#32
  | 2 => 22#32
  | 3 => 22#32
  | 4 => 22#32
  | 5 => 22#32
  | 6 => 22#32
  | 7 => 22#32
  | 8 => 22#32
  | 9 => 22#32
  | 10 => 22#32
  | 11 => 22#32
  | 12 => 22#32
  | 13 => 22#32
  | 14 => 22#32
  | 15 => 22#32
  | 16 => 22#32
  | 17 => 22#32
  | 18 => 22#32
  | 19 => 22#32
  | 20 => 22#32
  | 21 => 22#32
  | 22 => 22#32
  | 23 => 22#32
  | 24 => 22#32
  | 25 => 22#32
  | 26 => 22#32
  | 27 => 22#32
  | 28 => 22#32
  | 29 => 22#32
  | 30 => 22#32
  | 31 => 22#32
  | 32 => 22#32
  | 33 => 22#32
  | 34 => 22#32
  | 35 => 22#32
  | 36 => 22#32
  | 37 => 22#32
  | 38 => 22#32
  | 39 => 22#32
  | 40 => 22#32
  | 41 => 22#32
  | 42 => 22#32
  | 43 => 22#32
  | 44 => 22#32
  | 45 => 22#32
  | 46 => 22#32
  | 47 => 22#32
  | 48 => 22#32
  | 49 => 22#32
  | 50 => 22#32
  | 51 => 22#32
  | 52 => 22#32
  | 53 => 22#32
  | 54 => 22#32
  | 55 => 22#32
  | 56 => 22#32
  | 57 => 22#32
  | 58 => 22#32
  | 59 => 22#32
  | 60 => 22#32
  | 61 => 22#32
  | 62 => 22#32
  | 63 => 22#32
  | 64 => 23#32
  | 65 => 23#32
  | 66 => 23#32
  | 67 => 23#32
  | 68 => 23#32
  | 69 => 23#32
  | 70 => 23#32
  | 71 => 23#32
  | 72 => 23#32
  | 73 => 23#32
  | 74 => 23#32
  | 75 => 23#32
  | 76 => 23#32
  | 77 => 23#32
  | 78 => 23#32
  | 79 => 23#32
  | 80 => 23#32
  | 81 => 23#32
  | 82 => 23#32
  | 83 => 23#32
  | 84 => 23#32
  | 85 => 23#32
  | 86 => 23#32
  | 87 => 23#32
  | 88 => 23#32
  | 89 => 23#32
  | 90 => 23#32
  | 91 => 23#32
  | 92 => 23#32
  | 93 => 23#32
  | 94 => 23#32
  | 95 => 23#32
  | 96 => 23#32
  | 97 => 23#32
  | 98 => 23#32
  | 99 => 23#32
  | 100 => 23#32
  | 101 => 23#32
  | 102 => 23#32
  | 103 => 23#32
  | 104 => 23#32
  | 105 => 23#32
  | 106 => 23#32
  | 107 => 23#32
  | 108 => 23#32
  | 109 => 23#32
  | 110 => 23#32
  | 111 => 23#32
  | 112 => 23#32
  | 113 => 23#32
  | 114 => 23#32
  | 115 => 23#32
  | 116 => 23#32
  | 117 => 23#32
  | 118 => 23#32
  | 119 => 23#32
  | 120 => 23#32
  | 121 => 23#32
  | 122 => 23#32
  | 123 => 23#32
  | 124 => 23#32
  | 125 => 23#32
  | 126 => 23#32
  | 127 => 23#32
  | _ => 0#32

noncomputable abbrev lit1t0_12 (i : Nat) : BitVec 32 := match i % 128 with
  | 0 => 24#32
  | 1 => 24#32
  | 2 => 24#32
  | 3 => 24#32
  | 4 => 24#32
  | 5 => 24#32
  | 6 => 24#32
  | 7 => 24#32
  | 8 => 24#32
  | 9 => 24#32
  | 10 => 24#32
  | 11 => 24#32
  | 12 => 24#32
  | 13 => 24#32
  | 14 => 24#32
  | 15 => 24#32
  | 16 => 24#32
  | 17 => 24#32
  | 18 => 24#32
  | 19 => 24#32
  | 20 => 24#32
  | 21 => 24#32
  | 22 => 24#32
  | 23 => 24#32
  | 24 => 24#32
  | 25 => 24#32
  | 26 => 24#32
  | 27 => 24#32
  | 28 => 24#32
  | 29 => 24#32
  | 30 => 24#32
  | 31 => 24#32
  | 32 => 24#32
  | 33 => 24#32
  | 34 => 24#32
  | 35 => 24#32
  | 36 => 24#32
  | 37 => 24#32
  | 38 => 24#32
  | 39 => 24#32
  | 40 => 24#32
  | 41 => 24#32
  | 42 => 24#32
  | 43 => 24#32
  | 44 => 24#32
  | 45 => 24#32
  | 46 => 24#32
  | 47 => 24#32
  | 48 => 24#32
  | 49 => 24#32
  | 50 => 24#32
  | 51 => 24#32
  | 52 => 24#32
  | 53 => 24#32
  | 54 => 24#32
  | 55 => 24#32
  | 56 => 24#32
  | 57 => 24#32
  | 58 => 24#32
  | 59 => 24#32
  | 60 => 24#32
  | 61 => 24#32
  | 62 => 24#32
  | 63 => 24#32
  | 64 => 25#32
  | 65 => 25#32
  | 66 => 25#32
  | 67 => 25#32
  | 68 => 25#32
  | 69 => 25#32
  | 70 => 25#32
  | 71 => 25#32
  | 72 => 25#32
  | 73 => 25#32
  | 74 => 25#32
  | 75 => 25#32
  | 76 => 25#32
  | 77 => 25#32
  | 78 => 25#32
  | 79 => 25#32
  | 80 => 25#32
  | 81 => 25#32
  | 82 => 25#32
  | 83 => 25#32
  | 84 => 25#32
  | 85 => 25#32
  | 86 => 25#32
  | 87 => 25#32
  | 88 => 25#32
  | 89 => 25#32
  | 90 => 25#32
  | 91 => 25#32
  | 92 => 25#32
  | 93 => 25#32
  | 94 => 25#32
  | 95 => 25#32
  | 96 => 25#32
  | 97 => 25#32
  | 98 => 25#32
  | 99 => 25#32
  | 100 => 25#32
  | 101 => 25#32
  | 102 => 25#32
  | 103 => 25#32
  | 104 => 25#32
  | 105 => 25#32
  | 106 => 25#32
  | 107 => 25#32
  | 108 => 25#32
  | 109 => 25#32
  | 110 => 25#32
  | 111 => 25#32
  | 112 => 25#32
  | 113 => 25#32
  | 114 => 25#32
  | 115 => 25#32
  | 116 => 25#32
  | 117 => 25#32
  | 118 => 25#32
  | 119 => 25#32
  | 120 => 25#32
  | 121 => 25#32
  | 122 => 25#32
  | 123 => 25#32
  | 124 => 25#32
  | 125 => 25#32
  | 126 => 25#32
  | 127 => 25#32
  | _ => 0#32

noncomputable abbrev lit1t0_13 (i : Nat) : BitVec 32 := match i % 128 with
  | 0 => 26#32
  | 1 => 26#32
  | 2 => 26#32
  | 3 => 26#32
  | 4 => 26#32
  | 5 => 26#32
  | 6 => 26#32
  | 7 => 26#32
  | 8 => 26#32
  | 9 => 26#32
  | 10 => 26#32
  | 11 => 26#32
  | 12 => 26#32
  | 13 => 26#32
  | 14 => 26#32
  | 15 => 26#32
  | 16 => 26#32
  | 17 => 26#32
  | 18 => 26#32
  | 19 => 26#32
  | 20 => 26#32
  | 21 => 26#32
  | 22 => 26#32
  | 23 => 26#32
  | 24 => 26#32
  | 25 => 26#32
  | 26 => 26#32
  | 27 => 26#32
  | 28 => 26#32
  | 29 => 26#32
  | 30 => 26#32
  | 31 => 26#32
  | 32 => 26#32
  | 33 => 26#32
  | 34 => 26#32
  | 35 => 26#32
  | 36 => 26#32
  | 37 => 26#32
  | 38 => 26#32
  | 39 => 26#32
  | 40 => 26#32
  | 41 => 26#32
  | 42 => 26#32
  | 43 => 26#32
  | 44 => 26#32
  | 45 => 26#32
  | 46 => 26#32
  | 47 => 26#32
  | 48 => 26#32
  | 49 => 26#32
  | 50 => 26#32
  | 51 => 26#32
  | 52 => 26#32
  | 53 => 26#32
  | 54 => 26#32
  | 55 => 26#32
  | 56 => 26#32
  | 57 => 26#32
  | 58 => 26#32
  | 59 => 26#32
  | 60 => 26#32
  | 61 => 26#32
  | 62 => 26#32
  | 63 => 26#32
  | 64 => 27#32
  | 65 => 27#32
  | 66 => 27#32
  | 67 => 27#32
  | 68 => 27#32
  | 69 => 27#32
  | 70 => 27#32
  | 71 => 27#32
  | 72 => 27#32
  | 73 => 27#32
  | 74 => 27#32
  | 75 => 27#32
  | 76 => 27#32
  | 77 => 27#32
  | 78 => 27#32
  | 79 => 27#32
  | 80 => 27#32
  | 81 => 27#32
  | 82 => 27#32
  | 83 => 27#32
  | 84 => 27#32
  | 85 => 27#32
  | 86 => 27#32
  | 87 => 27#32
  | 88 => 27#32
  | 89 => 27#32
  | 90 => 27#32
  | 91 => 27#32
  | 92 => 27#32
  | 93 => 27#32
  | 94 => 27#32
  | 95 => 27#32
  | 96 => 27#32
  | 97 => 27#32
  | 98 => 27#32
  | 99 => 27#32
  | 100 => 27#32
  | 101 => 27#32
  | 102 => 27#32
  | 103 => 27#32
  | 104 => 27#32
  | 105 => 27#32
  | 106 => 27#32
  | 107 => 27#32
  | 108 => 27#32
  | 109 => 27#32
  | 110 => 27#32
  | 111 => 27#32
  | 112 => 27#32
  | 113 => 27#32
  | 114 => 27#32
  | 115 => 27#32
  | 116 => 27#32
  | 117 => 27#32
  | 118 => 27#32
  | 119 => 27#32
  | 120 => 27#32
  | 121 => 27#32
  | 122 => 27#32
  | 123 => 27#32
  | 124 => 27#32
  | 125 => 27#32
  | 126 => 27#32
  | 127 => 27#32
  | _ => 0#32

noncomputable abbrev lit1t0_14 (i : Nat) : BitVec 32 := match i % 128 with
  | 0 => 28#32
  | 1 => 28#32
  | 2 => 28#32
  | 3 => 28#32
  | 4 => 28#32
  | 5 => 28#32
  | 6 => 28#32
  | 7 => 28#32
  | 8 => 28#32
  | 9 => 28#32
  | 10 => 28#32
  | 11 => 28#32
  | 12 => 28#32
  | 13 => 28#32
  | 14 => 28#32
  | 15 => 28#32
  | 16 => 28#32
  | 17 => 28#32
  | 18 => 28#32
  | 19 => 28#32
  | 20 => 28#32
  | 21 => 28#32
  | 22 => 28#32
  | 23 => 28#32
  | 24 => 28#32
  | 25 => 28#32
  | 26 => 28#32
  | 27 => 28#32
  | 28 => 28#32
  | 29 => 28#32
  | 30 => 28#32
  | 31 => 28#32
  | 32 => 28#32
  | 33 => 28#32
  | 34 => 28#32
  | 35 => 28#32
  | 36 => 28#32
  | 37 => 28#32
  | 38 => 28#32
  | 39 => 28#32
  | 40 => 28#32
  | 41 => 28#32
  | 42 => 28#32
  | 43 => 28#32
  | 44 => 28#32
  | 45 => 28#32
  | 46 => 28#32
  | 47 => 28#32
  | 48 => 28#32
  | 49 => 28#32
  | 50 => 28#32
  | 51 => 28#32
  | 52 => 28#32
  | 53 => 28#32
  | 54 => 28#32
  | 55 => 28#32
  | 56 => 28#32
  | 57 => 28#32
  | 58 => 28#32
  | 59 => 28#32
  | 60 => 28#32
  | 61 => 28#32
  | 62 => 28#32
  | 63 => 28#32
  | 64 => 29#32
  | 65 => 29#32
  | 66 => 29#32
  | 67 => 29#32
  | 68 => 29#32
  | 69 => 29#32
  | 70 => 29#32
  | 71 => 29#32
  | 72 => 29#32
  | 73 => 29#32
  | 74 => 29#32
  | 75 => 29#32
  | 76 => 29#32
  | 77 => 29#32
  | 78 => 29#32
  | 79 => 29#32
  | 80 => 29#32
  | 81 => 29#32
  | 82 => 29#32
  | 83 => 29#32
  | 84 => 29#32
  | 85 => 29#32
  | 86 => 29#32
  | 87 => 29#32
  | 88 => 29#32
  | 89 => 29#32
  | 90 => 29#32
  | 91 => 29#32
  | 92 => 29#32
  | 93 => 29#32
  | 94 => 29#32
  | 95 => 29#32
  | 96 => 29#32
  | 97 => 29#32
  | 98 => 29#32
  | 99 => 29#32
  | 100 => 29#32
  | 101 => 29#32
  | 102 => 29#32
  | 103 => 29#32
  | 104 => 29#32
  | 105 => 29#32
  | 106 => 29#32
  | 107 => 29#32
  | 108 => 29#32
  | 109 => 29#32
  | 110 => 29#32
  | 111 => 29#32
  | 112 => 29#32
  | 113 => 29#32
  | 114 => 29#32
  | 115 => 29#32
  | 116 => 29#32
  | 117 => 29#32
  | 118 => 29#32
  | 119 => 29#32
  | 120 => 29#32
  | 121 => 29#32
  | 122 => 29#32
  | 123 => 29#32
  | 124 => 29#32
  | 125 => 29#32
  | 126 => 29#32
  | 127 => 29#32
  | _ => 0#32

noncomputable abbrev lit1t0_15 (i : Nat) : BitVec 32 := match i % 128 with
  | 0 => 30#32
  | 1 => 30#32
  | 2 => 30#32
  | 3 => 30#32
  | 4 => 30#32
  | 5 => 30#32
  | 6 => 30#32
  | 7 => 30#32
  | 8 => 30#32
  | 9 => 30#32
  | 10 => 30#32
  | 11 => 30#32
  | 12 => 30#32
  | 13 => 30#32
  | 14 => 30#32
  | 15 => 30#32
  | 16 => 30#32
  | 17 => 30#32
  | 18 => 30#32
  | 19 => 30#32
  | 20 => 30#32
  | 21 => 30#32
  | 22 => 30#32
  | 23 => 30#32
  | 24 => 30#32
  | 25 => 30#32
  | 26 => 30#32
  | 27 => 30#32
  | 28 => 30#32
  | 29 => 30#32
  | 30 => 30#32
  | 31 => 30#32
  | 32 => 30#32
  | 33 => 30#32
  | 34 => 30#32
  | 35 => 30#32
  | 36 => 30#32
  | 37 => 30#32
  | 38 => 30#32
  | 39 => 30#32
  | 40 => 30#32
  | 41 => 30#32
  | 42 => 30#32
  | 43 => 30#32
  | 44 => 30#32
  | 45 => 30#32
  | 46 => 30#32
  | 47 => 30#32
  | 48 => 30#32
  | 49 => 30#32
  | 50 => 30#32
  | 51 => 30#32
  | 52 => 30#32
  | 53 => 30#32
  | 54 => 30#32
  | 55 => 30#32
  | 56 => 30#32
  | 57 => 30#32
  | 58 => 30#32
  | 59 => 30#32
  | 60 => 30#32
  | 61 => 30#32
  | 62 => 30#32
  | 63 => 30#32
  | 64 => 31#32
  | 65 => 31#32
  | 66 => 31#32
  | 67 => 31#32
  | 68 => 31#32
  | 69 => 31#32
  | 70 => 31#32
  | 71 => 31#32
  | 72 => 31#32
  | 73 => 31#32
  | 74 => 31#32
  | 75 => 31#32
  | 76 => 31#32
  | 77 => 31#32
  | 78 => 31#32
  | 79 => 31#32
  | 80 => 31#32
  | 81 => 31#32
  | 82 => 31#32
  | 83 => 31#32
  | 84 => 31#32
  | 85 => 31#32
  | 86 => 31#32
  | 87 => 31#32
  | 88 => 31#32
  | 89 => 31#32
  | 90 => 31#32
  | 91 => 31#32
  | 92 => 31#32
  | 93 => 31#32
  | 94 => 31#32
  | 95 => 31#32
  | 96 => 31#32
  | 97 => 31#32
  | 98 => 31#32
  | 99 => 31#32
  | 100 => 31#32
  | 101 => 31#32
  | 102 => 31#32
  | 103 => 31#32
  | 104 => 31#32
  | 105 => 31#32
  | 106 => 31#32
  | 107 => 31#32
  | 108 => 31#32
  | 109 => 31#32
  | 110 => 31#32
  | 111 => 31#32
  | 112 => 31#32
  | 113 => 31#32
  | 114 => 31#32
  | 115 => 31#32
  | 116 => 31#32
  | 117 => 31#32
  | 118 => 31#32
  | 119 => 31#32
  | 120 => 31#32
  | 121 => 31#32
  | 122 => 31#32
  | 123 => 31#32
  | 124 => 31#32
  | 125 => 31#32
  | 126 => 31#32
  | 127 => 31#32
  | _ => 0#32

noncomputable abbrev lit1t0_16 (i : Nat) : BitVec 32 := match i % 128 with
  | 0 => 32#32
  | 1 => 32#32
  | 2 => 32#32
  | 3 => 32#32
  | 4 => 32#32
  | 5 => 32#32
  | 6 => 32#32
  | 7 => 32#32
  | 8 => 32#32
  | 9 => 32#32
  | 10 => 32#32
  | 11 => 32#32
  | 12 => 32#32
  | 13 => 32#32
  | 14 => 32#32
  | 15 => 32#32
  | 16 => 32#32
  | 17 => 32#32
  | 18 => 32#32
  | 19 => 32#32
  | 20 => 32#32
  | 21 => 32#32
  | 22 => 32#32
  | 23 => 32#32
  | 24 => 32#32
  | 25 => 32#32
  | 26 => 32#32
  | 27 => 32#32
  | 28 => 32#32
  | 29 => 32#32
  | 30 => 32#32
  | 31 => 32#32
  | 32 => 32#32
  | 33 => 32#32
  | 34 => 32#32
  | 35 => 32#32
  | 36 => 32#32
  | 37 => 32#32
  | 38 => 32#32
  | 39 => 32#32
  | 40 => 32#32
  | 41 => 32#32
  | 42 => 32#32
  | 43 => 32#32
  | 44 => 32#32
  | 45 => 32#32
  | 46 => 32#32
  | 47 => 32#32
  | 48 => 32#32
  | 49 => 32#32
  | 50 => 32#32
  | 51 => 32#32
  | 52 => 32#32
  | 53 => 32#32
  | 54 => 32#32
  | 55 => 32#32
  | 56 => 32#32
  | 57 => 32#32
  | 58 => 32#32
  | 59 => 32#32
  | 60 => 32#32
  | 61 => 32#32
  | 62 => 32#32
  | 63 => 32#32
  | 64 => 33#32
  | 65 => 33#32
  | 66 => 33#32
  | 67 => 33#32
  | 68 => 33#32
  | 69 => 33#32
  | 70 => 33#32
  | 71 => 33#32
  | 72 => 33#32
  | 73 => 33#32
  | 74 => 33#32
  | 75 => 33#32
  | 76 => 33#32
  | 77 => 33#32
  | 78 => 33#32
  | 79 => 33#32
  | 80 => 33#32
  | 81 => 33#32
  | 82 => 33#32
  | 83 => 33#32
  | 84 => 33#32
  | 85 => 33#32
  | 86 => 33#32
  | 87 => 33#32
  | 88 => 33#32
  | 89 => 33#32
  | 90 => 33#32
  | 91 => 33#32
  | 92 => 33#32
  | 93 => 33#32
  | 94 => 33#32
  | 95 => 33#32
  | 96 => 33#32
  | 97 => 33#32
  | 98 => 33#32
  | 99 => 33#32
  | 100 => 33#32
  | 101 => 33#32
  | 102 => 33#32
  | 103 => 33#32
  | 104 => 33#32
  | 105 => 33#32
  | 106 => 33#32
  | 107 => 33#32
  | 108 => 33#32
  | 109 => 33#32
  | 110 => 33#32
  | 111 => 33#32
  | 112 => 33#32
  | 113 => 33#32
  | 114 => 33#32
  | 115 => 33#32
  | 116 => 33#32
  | 117 => 33#32
  | 118 => 33#32
  | 119 => 33#32
  | 120 => 33#32
  | 121 => 33#32
  | 122 => 33#32
  | 123 => 33#32
  | 124 => 33#32
  | 125 => 33#32
  | 126 => 33#32
  | 127 => 33#32
  | _ => 0#32

noncomputable abbrev lit1t0_17 (i : Nat) : BitVec 32 := match i % 128 with
  | 0 => 34#32
  | 1 => 34#32
  | 2 => 34#32
  | 3 => 34#32
  | 4 => 34#32
  | 5 => 34#32
  | 6 => 34#32
  | 7 => 34#32
  | 8 => 34#32
  | 9 => 34#32
  | 10 => 34#32
  | 11 => 34#32
  | 12 => 34#32
  | 13 => 34#32
  | 14 => 34#32
  | 15 => 34#32
  | 16 => 34#32
  | 17 => 34#32
  | 18 => 34#32
  | 19 => 34#32
  | 20 => 34#32
  | 21 => 34#32
  | 22 => 34#32
  | 23 => 34#32
  | 24 => 34#32
  | 25 => 34#32
  | 26 => 34#32
  | 27 => 34#32
  | 28 => 34#32
  | 29 => 34#32
  | 30 => 34#32
  | 31 => 34#32
  | 32 => 34#32
  | 33 => 34#32
  | 34 => 34#32
  | 35 => 34#32
  | 36 => 34#32
  | 37 => 34#32
  | 38 => 34#32
  | 39 => 34#32
  | 40 => 34#32
  | 41 => 34#32
  | 42 => 34#32
  | 43 => 34#32
  | 44 => 34#32
  | 45 => 34#32
  | 46 => 34#32
  | 47 => 34#32
  | 48 => 34#32
  | 49 => 34#32
  | 50 => 34#32
  | 51 => 34#32
  | 52 => 34#32
  | 53 => 34#32
  | 54 => 34#32
  | 55 => 34#32
  | 56 => 34#32
  | 57 => 34#32
  | 58 => 34#32
  | 59 => 34#32
  | 60 => 34#32
  | 61 => 34#32
  | 62 => 34#32
  | 63 => 34#32
  | 64 => 35#32
  | 65 => 35#32
  | 66 => 35#32
  | 67 => 35#32
  | 68 => 35#32
  | 69 => 35#32
  | 70 => 35#32
  | 71 => 35#32
  | 72 => 35#32
  | 73 => 35#32
  | 74 => 35#32
  | 75 => 35#32
  | 76 => 35#32
  | 77 => 35#32
  | 78 => 35#32
  | 79 => 35#32
  | 80 => 35#32
  | 81 => 35#32
  | 82 => 35#32
  | 83 => 35#32
  | 84 => 35#32
  | 85 => 35#32
  | 86 => 35#32
  | 87 => 35#32
  | 88 => 35#32
  | 89 => 35#32
  | 90 => 35#32
  | 91 => 35#32
  | 92 => 35#32
  | 93 => 35#32
  | 94 => 35#32
  | 95 => 35#32
  | 96 => 35#32
  | 97 => 35#32
  | 98 => 35#32
  | 99 => 35#32
  | 100 => 35#32
  | 101 => 35#32
  | 102 => 35#32
  | 103 => 35#32
  | 104 => 35#32
  | 105 => 35#32
  | 106 => 35#32
  | 107 => 35#32
  | 108 => 35#32
  | 109 => 35#32
  | 110 => 35#32
  | 111 => 35#32
  | 112 => 35#32
  | 113 => 35#32
  | 114 => 35#32
  | 115 => 35#32
  | 116 => 35#32
  | 117 => 35#32
  | 118 => 35#32
  | 119 => 35#32
  | 120 => 35#32
  | 121 => 35#32
  | 122 => 35#32
  | 123 => 35#32
  | 124 => 35#32
  | 125 => 35#32
  | 126 => 35#32
  | 127 => 35#32
  | _ => 0#32

noncomputable abbrev lit1t0_18 (i : Nat) : BitVec 32 := match i % 128 with
  | 0 => 36#32
  | 1 => 36#32
  | 2 => 36#32
  | 3 => 36#32
  | 4 => 36#32
  | 5 => 36#32
  | 6 => 36#32
  | 7 => 36#32
  | 8 => 36#32
  | 9 => 36#32
  | 10 => 36#32
  | 11 => 36#32
  | 12 => 36#32
  | 13 => 36#32
  | 14 => 36#32
  | 15 => 36#32
  | 16 => 36#32
  | 17 => 36#32
  | 18 => 36#32
  | 19 => 36#32
  | 20 => 36#32
  | 21 => 36#32
  | 22 => 36#32
  | 23 => 36#32
  | 24 => 36#32
  | 25 => 36#32
  | 26 => 36#32
  | 27 => 36#32
  | 28 => 36#32
  | 29 => 36#32
  | 30 => 36#32
  | 31 => 36#32
  | 32 => 36#32
  | 33 => 36#32
  | 34 => 36#32
  | 35 => 36#32
  | 36 => 36#32
  | 37 => 36#32
  | 38 => 36#32
  | 39 => 36#32
  | 40 => 36#32
  | 41 => 36#32
  | 42 => 36#32
  | 43 => 36#32
  | 44 => 36#32
  | 45 => 36#32
  | 46 => 36#32
  | 47 => 36#32
  | 48 => 36#32
  | 49 => 36#32
  | 50 => 36#32
  | 51 => 36#32
  | 52 => 36#32
  | 53 => 36#32
  | 54 => 36#32
  | 55 => 36#32
  | 56 => 36#32
  | 57 => 36#32
  | 58 => 36#32
  | 59 => 36#32
  | 60 => 36#32
  | 61 => 36#32
  | 62 => 36#32
  | 63 => 36#32
  | 64 => 37#32
  | 65 => 37#32
  | 66 => 37#32
  | 67 => 37#32
  | 68 => 37#32
  | 69 => 37#32
  | 70 => 37#32
  | 71 => 37#32
  | 72 => 37#32
  | 73 => 37#32
  | 74 => 37#32
  | 75 => 37#32
  | 76 => 37#32
  | 77 => 37#32
  | 78 => 37#32
  | 79 => 37#32
  | 80 => 37#32
  | 81 => 37#32
  | 82 => 37#32
  | 83 => 37#32
  | 84 => 37#32
  | 85 => 37#32
  | 86 => 37#32
  | 87 => 37#32
  | 88 => 37#32
  | 89 => 37#32
  | 90 => 37#32
  | 91 => 37#32
  | 92 => 37#32
  | 93 => 37#32
  | 94 => 37#32
  | 95 => 37#32
  | 96 => 37#32
  | 97 => 37#32
  | 98 => 37#32
  | 99 => 37#32
  | 100 => 37#32
  | 101 => 37#32
  | 102 => 37#32
  | 103 => 37#32
  | 104 => 37#32
  | 105 => 37#32
  | 106 => 37#32
  | 107 => 37#32
  | 108 => 37#32
  | 109 => 37#32
  | 110 => 37#32
  | 111 => 37#32
  | 112 => 37#32
  | 113 => 37#32
  | 114 => 37#32
  | 115 => 37#32
  | 116 => 37#32
  | 117 => 37#32
  | 118 => 37#32
  | 119 => 37#32
  | 120 => 37#32
  | 121 => 37#32
  | 122 => 37#32
  | 123 => 37#32
  | 124 => 37#32
  | 125 => 37#32
  | 126 => 37#32
  | 127 => 37#32
  | _ => 0#32

noncomputable abbrev lit1t0_19 (i : Nat) : BitVec 32 := match i % 128 with
  | 0 => 38#32
  | 1 => 38#32
  | 2 => 38#32
  | 3 => 38#32
  | 4 => 38#32
  | 5 => 38#32
  | 6 => 38#32
  | 7 => 38#32
  | 8 => 38#32
  | 9 => 38#32
  | 10 => 38#32
  | 11 => 38#32
  | 12 => 38#32
  | 13 => 38#32
  | 14 => 38#32
  | 15 => 38#32
  | 16 => 38#32
  | 17 => 38#32
  | 18 => 38#32
  | 19 => 38#32
  | 20 => 38#32
  | 21 => 38#32
  | 22 => 38#32
  | 23 => 38#32
  | 24 => 38#32
  | 25 => 38#32
  | 26 => 38#32
  | 27 => 38#32
  | 28 => 38#32
  | 29 => 38#32
  | 30 => 38#32
  | 31 => 38#32
  | 32 => 38#32
  | 33 => 38#32
  | 34 => 38#32
  | 35 => 38#32
  | 36 => 38#32
  | 37 => 38#32
  | 38 => 38#32
  | 39 => 38#32
  | 40 => 38#32
  | 41 => 38#32
  | 42 => 38#32
  | 43 => 38#32
  | 44 => 38#32
  | 45 => 38#32
  | 46 => 38#32
  | 47 => 38#32
  | 48 => 38#32
  | 49 => 38#32
  | 50 => 38#32
  | 51 => 38#32
  | 52 => 38#32
  | 53 => 38#32
  | 54 => 38#32
  | 55 => 38#32
  | 56 => 38#32
  | 57 => 38#32
  | 58 => 38#32
  | 59 => 38#32
  | 60 => 38#32
  | 61 => 38#32
  | 62 => 38#32
  | 63 => 38#32
  | 64 => 39#32
  | 65 => 39#32
  | 66 => 39#32
  | 67 => 39#32
  | 68 => 39#32
  | 69 => 39#32
  | 70 => 39#32
  | 71 => 39#32
  | 72 => 39#32
  | 73 => 39#32
  | 74 => 39#32
  | 75 => 39#32
  | 76 => 39#32
  | 77 => 39#32
  | 78 => 39#32
  | 79 => 39#32
  | 80 => 39#32
  | 81 => 39#32
  | 82 => 39#32
  | 83 => 39#32
  | 84 => 39#32
  | 85 => 39#32
  | 86 => 39#32
  | 87 => 39#32
  | 88 => 39#32
  | 89 => 39#32
  | 90 => 39#32
  | 91 => 39#32
  | 92 => 39#32
  | 93 => 39#32
  | 94 => 39#32
  | 95 => 39#32
  | 96 => 39#32
  | 97 => 39#32
  | 98 => 39#32
  | 99 => 39#32
  | 100 => 39#32
  | 101 => 39#32
  | 102 => 39#32
  | 103 => 39#32
  | 104 => 39#32
  | 105 => 39#32
  | 106 => 39#32
  | 107 => 39#32
  | 108 => 39#32
  | 109 => 39#32
  | 110 => 39#32
  | 111 => 39#32
  | 112 => 39#32
  | 113 => 39#32
  | 114 => 39#32
  | 115 => 39#32
  | 116 => 39#32
  | 117 => 39#32
  | 118 => 39#32
  | 119 => 39#32
  | 120 => 39#32
  | 121 => 39#32
  | 122 => 39#32
  | 123 => 39#32
  | 124 => 39#32
  | 125 => 39#32
  | 126 => 39#32
  | 127 => 39#32
  | _ => 0#32

noncomputable abbrev lit1t0_20 (i : Nat) : BitVec 32 := match i % 128 with
  | 0 => 40#32
  | 1 => 40#32
  | 2 => 40#32
  | 3 => 40#32
  | 4 => 40#32
  | 5 => 40#32
  | 6 => 40#32
  | 7 => 40#32
  | 8 => 40#32
  | 9 => 40#32
  | 10 => 40#32
  | 11 => 40#32
  | 12 => 40#32
  | 13 => 40#32
  | 14 => 40#32
  | 15 => 40#32
  | 16 => 40#32
  | 17 => 40#32
  | 18 => 40#32
  | 19 => 40#32
  | 20 => 40#32
  | 21 => 40#32
  | 22 => 40#32
  | 23 => 40#32
  | 24 => 40#32
  | 25 => 40#32
  | 26 => 40#32
  | 27 => 40#32
  | 28 => 40#32
  | 29 => 40#32
  | 30 => 40#32
  | 31 => 40#32
  | 32 => 40#32
  | 33 => 40#32
  | 34 => 40#32
  | 35 => 40#32
  | 36 => 40#32
  | 37 => 40#32
  | 38 => 40#32
  | 39 => 40#32
  | 40 => 40#32
  | 41 => 40#32
  | 42 => 40#32
  | 43 => 40#32
  | 44 => 40#32
  | 45 => 40#32
  | 46 => 40#32
  | 47 => 40#32
  | 48 => 40#32
  | 49 => 40#32
  | 50 => 40#32
  | 51 => 40#32
  | 52 => 40#32
  | 53 => 40#32
  | 54 => 40#32
  | 55 => 40#32
  | 56 => 40#32
  | 57 => 40#32
  | 58 => 40#32
  | 59 => 40#32
  | 60 => 40#32
  | 61 => 40#32
  | 62 => 40#32
  | 63 => 40#32
  | 64 => 41#32
  | 65 => 41#32
  | 66 => 41#32
  | 67 => 41#32
  | 68 => 41#32
  | 69 => 41#32
  | 70 => 41#32
  | 71 => 41#32
  | 72 => 41#32
  | 73 => 41#32
  | 74 => 41#32
  | 75 => 41#32
  | 76 => 41#32
  | 77 => 41#32
  | 78 => 41#32
  | 79 => 41#32
  | 80 => 41#32
  | 81 => 41#32
  | 82 => 41#32
  | 83 => 41#32
  | 84 => 41#32
  | 85 => 41#32
  | 86 => 41#32
  | 87 => 41#32
  | 88 => 41#32
  | 89 => 41#32
  | 90 => 41#32
  | 91 => 41#32
  | 92 => 41#32
  | 93 => 41#32
  | 94 => 41#32
  | 95 => 41#32
  | 96 => 41#32
  | 97 => 41#32
  | 98 => 41#32
  | 99 => 41#32
  | 100 => 41#32
  | 101 => 41#32
  | 102 => 41#32
  | 103 => 41#32
  | 104 => 41#32
  | 105 => 41#32
  | 106 => 41#32
  | 107 => 41#32
  | 108 => 41#32
  | 109 => 41#32
  | 110 => 41#32
  | 111 => 41#32
  | 112 => 41#32
  | 113 => 41#32
  | 114 => 41#32
  | 115 => 41#32
  | 116 => 41#32
  | 117 => 41#32
  | 118 => 41#32
  | 119 => 41#32
  | 120 => 41#32
  | 121 => 41#32
  | 122 => 41#32
  | 123 => 41#32
  | 124 => 41#32
  | 125 => 41#32
  | 126 => 41#32
  | 127 => 41#32
  | _ => 0#32

noncomputable abbrev lit1t0_21 (i : Nat) : BitVec 32 := match i % 128 with
  | 0 => 42#32
  | 1 => 42#32
  | 2 => 42#32
  | 3 => 42#32
  | 4 => 42#32
  | 5 => 42#32
  | 6 => 42#32
  | 7 => 42#32
  | 8 => 42#32
  | 9 => 42#32
  | 10 => 42#32
  | 11 => 42#32
  | 12 => 42#32
  | 13 => 42#32
  | 14 => 42#32
  | 15 => 42#32
  | 16 => 42#32
  | 17 => 42#32
  | 18 => 42#32
  | 19 => 42#32
  | 20 => 42#32
  | 21 => 42#32
  | 22 => 42#32
  | 23 => 42#32
  | 24 => 42#32
  | 25 => 42#32
  | 26 => 42#32
  | 27 => 42#32
  | 28 => 42#32
  | 29 => 42#32
  | 30 => 42#32
  | 31 => 42#32
  | 32 => 42#32
  | 33 => 42#32
  | 34 => 42#32
  | 35 => 42#32
  | 36 => 42#32
  | 37 => 42#32
  | 38 => 42#32
  | 39 => 42#32
  | 40 => 42#32
  | 41 => 42#32
  | 42 => 42#32
  | 43 => 42#32
  | 44 => 42#32
  | 45 => 42#32
  | 46 => 42#32
  | 47 => 42#32
  | 48 => 42#32
  | 49 => 42#32
  | 50 => 42#32
  | 51 => 42#32
  | 52 => 42#32
  | 53 => 42#32
  | 54 => 42#32
  | 55 => 42#32
  | 56 => 42#32
  | 57 => 42#32
  | 58 => 42#32
  | 59 => 42#32
  | 60 => 42#32
  | 61 => 42#32
  | 62 => 42#32
  | 63 => 42#32
  | 64 => 43#32
  | 65 => 43#32
  | 66 => 43#32
  | 67 => 43#32
  | 68 => 43#32
  | 69 => 43#32
  | 70 => 43#32
  | 71 => 43#32
  | 72 => 43#32
  | 73 => 43#32
  | 74 => 43#32
  | 75 => 43#32
  | 76 => 43#32
  | 77 => 43#32
  | 78 => 43#32
  | 79 => 43#32
  | 80 => 43#32
  | 81 => 43#32
  | 82 => 43#32
  | 83 => 43#32
  | 84 => 43#32
  | 85 => 43#32
  | 86 => 43#32
  | 87 => 43#32
  | 88 => 43#32
  | 89 => 43#32
  | 90 => 43#32
  | 91 => 43#32
  | 92 => 43#32
  | 93 => 43#32
  | 94 => 43#32
  | 95 => 43#32
  | 96 => 43#32
  | 97 => 43#32
  | 98 => 43#32
  | 99 => 43#32
  | 100 => 43#32
  | 101 => 43#32
  | 102 => 43#32
  | 103 => 43#32
  | 104 => 43#32
  | 105 => 43#32
  | 106 => 43#32
  | 107 => 43#32
  | 108 => 43#32
  | 109 => 43#32
  | 110 => 43#32
  | 111 => 43#32
  | 112 => 43#32
  | 113 => 43#32
  | 114 => 43#32
  | 115 => 43#32
  | 116 => 43#32
  | 117 => 43#32
  | 118 => 43#32
  | 119 => 43#32
  | 120 => 43#32
  | 121 => 43#32
  | 122 => 43#32
  | 123 => 43#32
  | 124 => 43#32
  | 125 => 43#32
  | 126 => 43#32
  | 127 => 43#32
  | _ => 0#32

noncomputable abbrev lit1t0_22 (i : Nat) : BitVec 32 := match i % 128 with
  | 0 => 44#32
  | 1 => 44#32
  | 2 => 44#32
  | 3 => 44#32
  | 4 => 44#32
  | 5 => 44#32
  | 6 => 44#32
  | 7 => 44#32
  | 8 => 44#32
  | 9 => 44#32
  | 10 => 44#32
  | 11 => 44#32
  | 12 => 44#32
  | 13 => 44#32
  | 14 => 44#32
  | 15 => 44#32
  | 16 => 44#32
  | 17 => 44#32
  | 18 => 44#32
  | 19 => 44#32
  | 20 => 44#32
  | 21 => 44#32
  | 22 => 44#32
  | 23 => 44#32
  | 24 => 44#32
  | 25 => 44#32
  | 26 => 44#32
  | 27 => 44#32
  | 28 => 44#32
  | 29 => 44#32
  | 30 => 44#32
  | 31 => 44#32
  | 32 => 44#32
  | 33 => 44#32
  | 34 => 44#32
  | 35 => 44#32
  | 36 => 44#32
  | 37 => 44#32
  | 38 => 44#32
  | 39 => 44#32
  | 40 => 44#32
  | 41 => 44#32
  | 42 => 44#32
  | 43 => 44#32
  | 44 => 44#32
  | 45 => 44#32
  | 46 => 44#32
  | 47 => 44#32
  | 48 => 44#32
  | 49 => 44#32
  | 50 => 44#32
  | 51 => 44#32
  | 52 => 44#32
  | 53 => 44#32
  | 54 => 44#32
  | 55 => 44#32
  | 56 => 44#32
  | 57 => 44#32
  | 58 => 44#32
  | 59 => 44#32
  | 60 => 44#32
  | 61 => 44#32
  | 62 => 44#32
  | 63 => 44#32
  | 64 => 45#32
  | 65 => 45#32
  | 66 => 45#32
  | 67 => 45#32
  | 68 => 45#32
  | 69 => 45#32
  | 70 => 45#32
  | 71 => 45#32
  | 72 => 45#32
  | 73 => 45#32
  | 74 => 45#32
  | 75 => 45#32
  | 76 => 45#32
  | 77 => 45#32
  | 78 => 45#32
  | 79 => 45#32
  | 80 => 45#32
  | 81 => 45#32
  | 82 => 45#32
  | 83 => 45#32
  | 84 => 45#32
  | 85 => 45#32
  | 86 => 45#32
  | 87 => 45#32
  | 88 => 45#32
  | 89 => 45#32
  | 90 => 45#32
  | 91 => 45#32
  | 92 => 45#32
  | 93 => 45#32
  | 94 => 45#32
  | 95 => 45#32
  | 96 => 45#32
  | 97 => 45#32
  | 98 => 45#32
  | 99 => 45#32
  | 100 => 45#32
  | 101 => 45#32
  | 102 => 45#32
  | 103 => 45#32
  | 104 => 45#32
  | 105 => 45#32
  | 106 => 45#32
  | 107 => 45#32
  | 108 => 45#32
  | 109 => 45#32
  | 110 => 45#32
  | 111 => 45#32
  | 112 => 45#32
  | 113 => 45#32
  | 114 => 45#32
  | 115 => 45#32
  | 116 => 45#32
  | 117 => 45#32
  | 118 => 45#32
  | 119 => 45#32
  | 120 => 45#32
  | 121 => 45#32
  | 122 => 45#32
  | 123 => 45#32
  | 124 => 45#32
  | 125 => 45#32
  | 126 => 45#32
  | 127 => 45#32
  | _ => 0#32

noncomputable abbrev lit1t0_23 (i : Nat) : BitVec 32 := match i % 128 with
  | 0 => 46#32
  | 1 => 46#32
  | 2 => 46#32
  | 3 => 46#32
  | 4 => 46#32
  | 5 => 46#32
  | 6 => 46#32
  | 7 => 46#32
  | 8 => 46#32
  | 9 => 46#32
  | 10 => 46#32
  | 11 => 46#32
  | 12 => 46#32
  | 13 => 46#32
  | 14 => 46#32
  | 15 => 46#32
  | 16 => 46#32
  | 17 => 46#32
  | 18 => 46#32
  | 19 => 46#32
  | 20 => 46#32
  | 21 => 46#32
  | 22 => 46#32
  | 23 => 46#32
  | 24 => 46#32
  | 25 => 46#32
  | 26 => 46#32
  | 27 => 46#32
  | 28 => 46#32
  | 29 => 46#32
  | 30 => 46#32
  | 31 => 46#32
  | 32 => 46#32
  | 33 => 46#32
  | 34 => 46#32
  | 35 => 46#32
  | 36 => 46#32
  | 37 => 46#32
  | 38 => 46#32
  | 39 => 46#32
  | 40 => 46#32
  | 41 => 46#32
  | 42 => 46#32
  | 43 => 46#32
  | 44 => 46#32
  | 45 => 46#32
  | 46 => 46#32
  | 47 => 46#32
  | 48 => 46#32
  | 49 => 46#32
  | 50 => 46#32
  | 51 => 46#32
  | 52 => 46#32
  | 53 => 46#32
  | 54 => 46#32
  | 55 => 46#32
  | 56 => 46#32
  | 57 => 46#32
  | 58 => 46#32
  | 59 => 46#32
  | 60 => 46#32
  | 61 => 46#32
  | 62 => 46#32
  | 63 => 46#32
  | 64 => 47#32
  | 65 => 47#32
  | 66 => 47#32
  | 67 => 47#32
  | 68 => 47#32
  | 69 => 47#32
  | 70 => 47#32
  | 71 => 47#32
  | 72 => 47#32
  | 73 => 47#32
  | 74 => 47#32
  | 75 => 47#32
  | 76 => 47#32
  | 77 => 47#32
  | 78 => 47#32
  | 79 => 47#32
  | 80 => 47#32
  | 81 => 47#32
  | 82 => 47#32
  | 83 => 47#32
  | 84 => 47#32
  | 85 => 47#32
  | 86 => 47#32
  | 87 => 47#32
  | 88 => 47#32
  | 89 => 47#32
  | 90 => 47#32
  | 91 => 47#32
  | 92 => 47#32
  | 93 => 47#32
  | 94 => 47#32
  | 95 => 47#32
  | 96 => 47#32
  | 97 => 47#32
  | 98 => 47#32
  | 99 => 47#32
  | 100 => 47#32
  | 101 => 47#32
  | 102 => 47#32
  | 103 => 47#32
  | 104 => 47#32
  | 105 => 47#32
  | 106 => 47#32
  | 107 => 47#32
  | 108 => 47#32
  | 109 => 47#32
  | 110 => 47#32
  | 111 => 47#32
  | 112 => 47#32
  | 113 => 47#32
  | 114 => 47#32
  | 115 => 47#32
  | 116 => 47#32
  | 117 => 47#32
  | 118 => 47#32
  | 119 => 47#32
  | 120 => 47#32
  | 121 => 47#32
  | 122 => 47#32
  | 123 => 47#32
  | 124 => 47#32
  | 125 => 47#32
  | 126 => 47#32
  | 127 => 47#32
  | _ => 0#32

noncomputable abbrev lit1t0_24 (i : Nat) : BitVec 32 := match i % 128 with
  | 0 => 48#32
  | 1 => 48#32
  | 2 => 48#32
  | 3 => 48#32
  | 4 => 48#32
  | 5 => 48#32
  | 6 => 48#32
  | 7 => 48#32
  | 8 => 48#32
  | 9 => 48#32
  | 10 => 48#32
  | 11 => 48#32
  | 12 => 48#32
  | 13 => 48#32
  | 14 => 48#32
  | 15 => 48#32
  | 16 => 48#32
  | 17 => 48#32
  | 18 => 48#32
  | 19 => 48#32
  | 20 => 48#32
  | 21 => 48#32
  | 22 => 48#32
  | 23 => 48#32
  | 24 => 48#32
  | 25 => 48#32
  | 26 => 48#32
  | 27 => 48#32
  | 28 => 48#32
  | 29 => 48#32
  | 30 => 48#32
  | 31 => 48#32
  | 32 => 48#32
  | 33 => 48#32
  | 34 => 48#32
  | 35 => 48#32
  | 36 => 48#32
  | 37 => 48#32
  | 38 => 48#32
  | 39 => 48#32
  | 40 => 48#32
  | 41 => 48#32
  | 42 => 48#32
  | 43 => 48#32
  | 44 => 48#32
  | 45 => 48#32
  | 46 => 48#32
  | 47 => 48#32
  | 48 => 48#32
  | 49 => 48#32
  | 50 => 48#32
  | 51 => 48#32
  | 52 => 48#32
  | 53 => 48#32
  | 54 => 48#32
  | 55 => 48#32
  | 56 => 48#32
  | 57 => 48#32
  | 58 => 48#32
  | 59 => 48#32
  | 60 => 48#32
  | 61 => 48#32
  | 62 => 48#32
  | 63 => 48#32
  | 64 => 49#32
  | 65 => 49#32
  | 66 => 49#32
  | 67 => 49#32
  | 68 => 49#32
  | 69 => 49#32
  | 70 => 49#32
  | 71 => 49#32
  | 72 => 49#32
  | 73 => 49#32
  | 74 => 49#32
  | 75 => 49#32
  | 76 => 49#32
  | 77 => 49#32
  | 78 => 49#32
  | 79 => 49#32
  | 80 => 49#32
  | 81 => 49#32
  | 82 => 49#32
  | 83 => 49#32
  | 84 => 49#32
  | 85 => 49#32
  | 86 => 49#32
  | 87 => 49#32
  | 88 => 49#32
  | 89 => 49#32
  | 90 => 49#32
  | 91 => 49#32
  | 92 => 49#32
  | 93 => 49#32
  | 94 => 49#32
  | 95 => 49#32
  | 96 => 49#32
  | 97 => 49#32
  | 98 => 49#32
  | 99 => 49#32
  | 100 => 49#32
  | 101 => 49#32
  | 102 => 49#32
  | 103 => 49#32
  | 104 => 49#32
  | 105 => 49#32
  | 106 => 49#32
  | 107 => 49#32
  | 108 => 49#32
  | 109 => 49#32
  | 110 => 49#32
  | 111 => 49#32
  | 112 => 49#32
  | 113 => 49#32
  | 114 => 49#32
  | 115 => 49#32
  | 116 => 49#32
  | 117 => 49#32
  | 118 => 49#32
  | 119 => 49#32
  | 120 => 49#32
  | 121 => 49#32
  | 122 => 49#32
  | 123 => 49#32
  | 124 => 49#32
  | 125 => 49#32
  | 126 => 49#32
  | 127 => 49#32
  | _ => 0#32

noncomputable abbrev lit1t0_25 (i : Nat) : BitVec 32 := match i % 128 with
  | 0 => 50#32
  | 1 => 50#32
  | 2 => 50#32
  | 3 => 50#32
  | 4 => 50#32
  | 5 => 50#32
  | 6 => 50#32
  | 7 => 50#32
  | 8 => 50#32
  | 9 => 50#32
  | 10 => 50#32
  | 11 => 50#32
  | 12 => 50#32
  | 13 => 50#32
  | 14 => 50#32
  | 15 => 50#32
  | 16 => 50#32
  | 17 => 50#32
  | 18 => 50#32
  | 19 => 50#32
  | 20 => 50#32
  | 21 => 50#32
  | 22 => 50#32
  | 23 => 50#32
  | 24 => 50#32
  | 25 => 50#32
  | 26 => 50#32
  | 27 => 50#32
  | 28 => 50#32
  | 29 => 50#32
  | 30 => 50#32
  | 31 => 50#32
  | 32 => 50#32
  | 33 => 50#32
  | 34 => 50#32
  | 35 => 50#32
  | 36 => 50#32
  | 37 => 50#32
  | 38 => 50#32
  | 39 => 50#32
  | 40 => 50#32
  | 41 => 50#32
  | 42 => 50#32
  | 43 => 50#32
  | 44 => 50#32
  | 45 => 50#32
  | 46 => 50#32
  | 47 => 50#32
  | 48 => 50#32
  | 49 => 50#32
  | 50 => 50#32
  | 51 => 50#32
  | 52 => 50#32
  | 53 => 50#32
  | 54 => 50#32
  | 55 => 50#32
  | 56 => 50#32
  | 57 => 50#32
  | 58 => 50#32
  | 59 => 50#32
  | 60 => 50#32
  | 61 => 50#32
  | 62 => 50#32
  | 63 => 50#32
  | 64 => 51#32
  | 65 => 51#32
  | 66 => 51#32
  | 67 => 51#32
  | 68 => 51#32
  | 69 => 51#32
  | 70 => 51#32
  | 71 => 51#32
  | 72 => 51#32
  | 73 => 51#32
  | 74 => 51#32
  | 75 => 51#32
  | 76 => 51#32
  | 77 => 51#32
  | 78 => 51#32
  | 79 => 51#32
  | 80 => 51#32
  | 81 => 51#32
  | 82 => 51#32
  | 83 => 51#32
  | 84 => 51#32
  | 85 => 51#32
  | 86 => 51#32
  | 87 => 51#32
  | 88 => 51#32
  | 89 => 51#32
  | 90 => 51#32
  | 91 => 51#32
  | 92 => 51#32
  | 93 => 51#32
  | 94 => 51#32
  | 95 => 51#32
  | 96 => 51#32
  | 97 => 51#32
  | 98 => 51#32
  | 99 => 51#32
  | 100 => 51#32
  | 101 => 51#32
  | 102 => 51#32
  | 103 => 51#32
  | 104 => 51#32
  | 105 => 51#32
  | 106 => 51#32
  | 107 => 51#32
  | 108 => 51#32
  | 109 => 51#32
  | 110 => 51#32
  | 111 => 51#32
  | 112 => 51#32
  | 113 => 51#32
  | 114 => 51#32
  | 115 => 51#32
  | 116 => 51#32
  | 117 => 51#32
  | 118 => 51#32
  | 119 => 51#32
  | 120 => 51#32
  | 121 => 51#32
  | 122 => 51#32
  | 123 => 51#32
  | 124 => 51#32
  | 125 => 51#32
  | 126 => 51#32
  | 127 => 51#32
  | _ => 0#32

noncomputable abbrev lit1t0_26 (i : Nat) : BitVec 32 := match i % 128 with
  | 0 => 52#32
  | 1 => 52#32
  | 2 => 52#32
  | 3 => 52#32
  | 4 => 52#32
  | 5 => 52#32
  | 6 => 52#32
  | 7 => 52#32
  | 8 => 52#32
  | 9 => 52#32
  | 10 => 52#32
  | 11 => 52#32
  | 12 => 52#32
  | 13 => 52#32
  | 14 => 52#32
  | 15 => 52#32
  | 16 => 52#32
  | 17 => 52#32
  | 18 => 52#32
  | 19 => 52#32
  | 20 => 52#32
  | 21 => 52#32
  | 22 => 52#32
  | 23 => 52#32
  | 24 => 52#32
  | 25 => 52#32
  | 26 => 52#32
  | 27 => 52#32
  | 28 => 52#32
  | 29 => 52#32
  | 30 => 52#32
  | 31 => 52#32
  | 32 => 52#32
  | 33 => 52#32
  | 34 => 52#32
  | 35 => 52#32
  | 36 => 52#32
  | 37 => 52#32
  | 38 => 52#32
  | 39 => 52#32
  | 40 => 52#32
  | 41 => 52#32
  | 42 => 52#32
  | 43 => 52#32
  | 44 => 52#32
  | 45 => 52#32
  | 46 => 52#32
  | 47 => 52#32
  | 48 => 52#32
  | 49 => 52#32
  | 50 => 52#32
  | 51 => 52#32
  | 52 => 52#32
  | 53 => 52#32
  | 54 => 52#32
  | 55 => 52#32
  | 56 => 52#32
  | 57 => 52#32
  | 58 => 52#32
  | 59 => 52#32
  | 60 => 52#32
  | 61 => 52#32
  | 62 => 52#32
  | 63 => 52#32
  | 64 => 53#32
  | 65 => 53#32
  | 66 => 53#32
  | 67 => 53#32
  | 68 => 53#32
  | 69 => 53#32
  | 70 => 53#32
  | 71 => 53#32
  | 72 => 53#32
  | 73 => 53#32
  | 74 => 53#32
  | 75 => 53#32
  | 76 => 53#32
  | 77 => 53#32
  | 78 => 53#32
  | 79 => 53#32
  | 80 => 53#32
  | 81 => 53#32
  | 82 => 53#32
  | 83 => 53#32
  | 84 => 53#32
  | 85 => 53#32
  | 86 => 53#32
  | 87 => 53#32
  | 88 => 53#32
  | 89 => 53#32
  | 90 => 53#32
  | 91 => 53#32
  | 92 => 53#32
  | 93 => 53#32
  | 94 => 53#32
  | 95 => 53#32
  | 96 => 53#32
  | 97 => 53#32
  | 98 => 53#32
  | 99 => 53#32
  | 100 => 53#32
  | 101 => 53#32
  | 102 => 53#32
  | 103 => 53#32
  | 104 => 53#32
  | 105 => 53#32
  | 106 => 53#32
  | 107 => 53#32
  | 108 => 53#32
  | 109 => 53#32
  | 110 => 53#32
  | 111 => 53#32
  | 112 => 53#32
  | 113 => 53#32
  | 114 => 53#32
  | 115 => 53#32
  | 116 => 53#32
  | 117 => 53#32
  | 118 => 53#32
  | 119 => 53#32
  | 120 => 53#32
  | 121 => 53#32
  | 122 => 53#32
  | 123 => 53#32
  | 124 => 53#32
  | 125 => 53#32
  | 126 => 53#32
  | 127 => 53#32
  | _ => 0#32

noncomputable abbrev lit1t0_27 (i : Nat) : BitVec 32 := match i % 128 with
  | 0 => 54#32
  | 1 => 54#32
  | 2 => 54#32
  | 3 => 54#32
  | 4 => 54#32
  | 5 => 54#32
  | 6 => 54#32
  | 7 => 54#32
  | 8 => 54#32
  | 9 => 54#32
  | 10 => 54#32
  | 11 => 54#32
  | 12 => 54#32
  | 13 => 54#32
  | 14 => 54#32
  | 15 => 54#32
  | 16 => 54#32
  | 17 => 54#32
  | 18 => 54#32
  | 19 => 54#32
  | 20 => 54#32
  | 21 => 54#32
  | 22 => 54#32
  | 23 => 54#32
  | 24 => 54#32
  | 25 => 54#32
  | 26 => 54#32
  | 27 => 54#32
  | 28 => 54#32
  | 29 => 54#32
  | 30 => 54#32
  | 31 => 54#32
  | 32 => 54#32
  | 33 => 54#32
  | 34 => 54#32
  | 35 => 54#32
  | 36 => 54#32
  | 37 => 54#32
  | 38 => 54#32
  | 39 => 54#32
  | 40 => 54#32
  | 41 => 54#32
  | 42 => 54#32
  | 43 => 54#32
  | 44 => 54#32
  | 45 => 54#32
  | 46 => 54#32
  | 47 => 54#32
  | 48 => 54#32
  | 49 => 54#32
  | 50 => 54#32
  | 51 => 54#32
  | 52 => 54#32
  | 53 => 54#32
  | 54 => 54#32
  | 55 => 54#32
  | 56 => 54#32
  | 57 => 54#32
  | 58 => 54#32
  | 59 => 54#32
  | 60 => 54#32
  | 61 => 54#32
  | 62 => 54#32
  | 63 => 54#32
  | 64 => 55#32
  | 65 => 55#32
  | 66 => 55#32
  | 67 => 55#32
  | 68 => 55#32
  | 69 => 55#32
  | 70 => 55#32
  | 71 => 55#32
  | 72 => 55#32
  | 73 => 55#32
  | 74 => 55#32
  | 75 => 55#32
  | 76 => 55#32
  | 77 => 55#32
  | 78 => 55#32
  | 79 => 55#32
  | 80 => 55#32
  | 81 => 55#32
  | 82 => 55#32
  | 83 => 55#32
  | 84 => 55#32
  | 85 => 55#32
  | 86 => 55#32
  | 87 => 55#32
  | 88 => 55#32
  | 89 => 55#32
  | 90 => 55#32
  | 91 => 55#32
  | 92 => 55#32
  | 93 => 55#32
  | 94 => 55#32
  | 95 => 55#32
  | 96 => 55#32
  | 97 => 55#32
  | 98 => 55#32
  | 99 => 55#32
  | 100 => 55#32
  | 101 => 55#32
  | 102 => 55#32
  | 103 => 55#32
  | 104 => 55#32
  | 105 => 55#32
  | 106 => 55#32
  | 107 => 55#32
  | 108 => 55#32
  | 109 => 55#32
  | 110 => 55#32
  | 111 => 55#32
  | 112 => 55#32
  | 113 => 55#32
  | 114 => 55#32
  | 115 => 55#32
  | 116 => 55#32
  | 117 => 55#32
  | 118 => 55#32
  | 119 => 55#32
  | 120 => 55#32
  | 121 => 55#32
  | 122 => 55#32
  | 123 => 55#32
  | 124 => 55#32
  | 125 => 55#32
  | 126 => 55#32
  | 127 => 55#32
  | _ => 0#32

noncomputable abbrev lit1t0_28 (i : Nat) : BitVec 32 := match i % 128 with
  | 0 => 56#32
  | 1 => 56#32
  | 2 => 56#32
  | 3 => 56#32
  | 4 => 56#32
  | 5 => 56#32
  | 6 => 56#32
  | 7 => 56#32
  | 8 => 56#32
  | 9 => 56#32
  | 10 => 56#32
  | 11 => 56#32
  | 12 => 56#32
  | 13 => 56#32
  | 14 => 56#32
  | 15 => 56#32
  | 16 => 56#32
  | 17 => 56#32
  | 18 => 56#32
  | 19 => 56#32
  | 20 => 56#32
  | 21 => 56#32
  | 22 => 56#32
  | 23 => 56#32
  | 24 => 56#32
  | 25 => 56#32
  | 26 => 56#32
  | 27 => 56#32
  | 28 => 56#32
  | 29 => 56#32
  | 30 => 56#32
  | 31 => 56#32
  | 32 => 56#32
  | 33 => 56#32
  | 34 => 56#32
  | 35 => 56#32
  | 36 => 56#32
  | 37 => 56#32
  | 38 => 56#32
  | 39 => 56#32
  | 40 => 56#32
  | 41 => 56#32
  | 42 => 56#32
  | 43 => 56#32
  | 44 => 56#32
  | 45 => 56#32
  | 46 => 56#32
  | 47 => 56#32
  | 48 => 56#32
  | 49 => 56#32
  | 50 => 56#32
  | 51 => 56#32
  | 52 => 56#32
  | 53 => 56#32
  | 54 => 56#32
  | 55 => 56#32
  | 56 => 56#32
  | 57 => 56#32
  | 58 => 56#32
  | 59 => 56#32
  | 60 => 56#32
  | 61 => 56#32
  | 62 => 56#32
  | 63 => 56#32
  | 64 => 57#32
  | 65 => 57#32
  | 66 => 57#32
  | 67 => 57#32
  | 68 => 57#32
  | 69 => 57#32
  | 70 => 57#32
  | 71 => 57#32
  | 72 => 57#32
  | 73 => 57#32
  | 74 => 57#32
  | 75 => 57#32
  | 76 => 57#32
  | 77 => 57#32
  | 78 => 57#32
  | 79 => 57#32
  | 80 => 57#32
  | 81 => 57#32
  | 82 => 57#32
  | 83 => 57#32
  | 84 => 57#32
  | 85 => 57#32
  | 86 => 57#32
  | 87 => 57#32
  | 88 => 57#32
  | 89 => 57#32
  | 90 => 57#32
  | 91 => 57#32
  | 92 => 57#32
  | 93 => 57#32
  | 94 => 57#32
  | 95 => 57#32
  | 96 => 57#32
  | 97 => 57#32
  | 98 => 57#32
  | 99 => 57#32
  | 100 => 57#32
  | 101 => 57#32
  | 102 => 57#32
  | 103 => 57#32
  | 104 => 57#32
  | 105 => 57#32
  | 106 => 57#32
  | 107 => 57#32
  | 108 => 57#32
  | 109 => 57#32
  | 110 => 57#32
  | 111 => 57#32
  | 112 => 57#32
  | 113 => 57#32
  | 114 => 57#32
  | 115 => 57#32
  | 116 => 57#32
  | 117 => 57#32
  | 118 => 57#32
  | 119 => 57#32
  | 120 => 57#32
  | 121 => 57#32
  | 122 => 57#32
  | 123 => 57#32
  | 124 => 57#32
  | 125 => 57#32
  | 126 => 57#32
  | 127 => 57#32
  | _ => 0#32

noncomputable abbrev lit1t0_29 (i : Nat) : BitVec 32 := match i % 128 with
  | 0 => 58#32
  | 1 => 58#32
  | 2 => 58#32
  | 3 => 58#32
  | 4 => 58#32
  | 5 => 58#32
  | 6 => 58#32
  | 7 => 58#32
  | 8 => 58#32
  | 9 => 58#32
  | 10 => 58#32
  | 11 => 58#32
  | 12 => 58#32
  | 13 => 58#32
  | 14 => 58#32
  | 15 => 58#32
  | 16 => 58#32
  | 17 => 58#32
  | 18 => 58#32
  | 19 => 58#32
  | 20 => 58#32
  | 21 => 58#32
  | 22 => 58#32
  | 23 => 58#32
  | 24 => 58#32
  | 25 => 58#32
  | 26 => 58#32
  | 27 => 58#32
  | 28 => 58#32
  | 29 => 58#32
  | 30 => 58#32
  | 31 => 58#32
  | 32 => 58#32
  | 33 => 58#32
  | 34 => 58#32
  | 35 => 58#32
  | 36 => 58#32
  | 37 => 58#32
  | 38 => 58#32
  | 39 => 58#32
  | 40 => 58#32
  | 41 => 58#32
  | 42 => 58#32
  | 43 => 58#32
  | 44 => 58#32
  | 45 => 58#32
  | 46 => 58#32
  | 47 => 58#32
  | 48 => 58#32
  | 49 => 58#32
  | 50 => 58#32
  | 51 => 58#32
  | 52 => 58#32
  | 53 => 58#32
  | 54 => 58#32
  | 55 => 58#32
  | 56 => 58#32
  | 57 => 58#32
  | 58 => 58#32
  | 59 => 58#32
  | 60 => 58#32
  | 61 => 58#32
  | 62 => 58#32
  | 63 => 58#32
  | 64 => 59#32
  | 65 => 59#32
  | 66 => 59#32
  | 67 => 59#32
  | 68 => 59#32
  | 69 => 59#32
  | 70 => 59#32
  | 71 => 59#32
  | 72 => 59#32
  | 73 => 59#32
  | 74 => 59#32
  | 75 => 59#32
  | 76 => 59#32
  | 77 => 59#32
  | 78 => 59#32
  | 79 => 59#32
  | 80 => 59#32
  | 81 => 59#32
  | 82 => 59#32
  | 83 => 59#32
  | 84 => 59#32
  | 85 => 59#32
  | 86 => 59#32
  | 87 => 59#32
  | 88 => 59#32
  | 89 => 59#32
  | 90 => 59#32
  | 91 => 59#32
  | 92 => 59#32
  | 93 => 59#32
  | 94 => 59#32
  | 95 => 59#32
  | 96 => 59#32
  | 97 => 59#32
  | 98 => 59#32
  | 99 => 59#32
  | 100 => 59#32
  | 101 => 59#32
  | 102 => 59#32
  | 103 => 59#32
  | 104 => 59#32
  | 105 => 59#32
  | 106 => 59#32
  | 107 => 59#32
  | 108 => 59#32
  | 109 => 59#32
  | 110 => 59#32
  | 111 => 59#32
  | 112 => 59#32
  | 113 => 59#32
  | 114 => 59#32
  | 115 => 59#32
  | 116 => 59#32
  | 117 => 59#32
  | 118 => 59#32
  | 119 => 59#32
  | 120 => 59#32
  | 121 => 59#32
  | 122 => 59#32
  | 123 => 59#32
  | 124 => 59#32
  | 125 => 59#32
  | 126 => 59#32
  | 127 => 59#32
  | _ => 0#32

noncomputable abbrev lit1t0_30 (i : Nat) : BitVec 32 := match i % 128 with
  | 0 => 60#32
  | 1 => 60#32
  | 2 => 60#32
  | 3 => 60#32
  | 4 => 60#32
  | 5 => 60#32
  | 6 => 60#32
  | 7 => 60#32
  | 8 => 60#32
  | 9 => 60#32
  | 10 => 60#32
  | 11 => 60#32
  | 12 => 60#32
  | 13 => 60#32
  | 14 => 60#32
  | 15 => 60#32
  | 16 => 60#32
  | 17 => 60#32
  | 18 => 60#32
  | 19 => 60#32
  | 20 => 60#32
  | 21 => 60#32
  | 22 => 60#32
  | 23 => 60#32
  | 24 => 60#32
  | 25 => 60#32
  | 26 => 60#32
  | 27 => 60#32
  | 28 => 60#32
  | 29 => 60#32
  | 30 => 60#32
  | 31 => 60#32
  | 32 => 60#32
  | 33 => 60#32
  | 34 => 60#32
  | 35 => 60#32
  | 36 => 60#32
  | 37 => 60#32
  | 38 => 60#32
  | 39 => 60#32
  | 40 => 60#32
  | 41 => 60#32
  | 42 => 60#32
  | 43 => 60#32
  | 44 => 60#32
  | 45 => 60#32
  | 46 => 60#32
  | 47 => 60#32
  | 48 => 60#32
  | 49 => 60#32
  | 50 => 60#32
  | 51 => 60#32
  | 52 => 60#32
  | 53 => 60#32
  | 54 => 60#32
  | 55 => 60#32
  | 56 => 60#32
  | 57 => 60#32
  | 58 => 60#32
  | 59 => 60#32
  | 60 => 60#32
  | 61 => 60#32
  | 62 => 60#32
  | 63 => 60#32
  | 64 => 61#32
  | 65 => 61#32
  | 66 => 61#32
  | 67 => 61#32
  | 68 => 61#32
  | 69 => 61#32
  | 70 => 61#32
  | 71 => 61#32
  | 72 => 61#32
  | 73 => 61#32
  | 74 => 61#32
  | 75 => 61#32
  | 76 => 61#32
  | 77 => 61#32
  | 78 => 61#32
  | 79 => 61#32
  | 80 => 61#32
  | 81 => 61#32
  | 82 => 61#32
  | 83 => 61#32
  | 84 => 61#32
  | 85 => 61#32
  | 86 => 61#32
  | 87 => 61#32
  | 88 => 61#32
  | 89 => 61#32
  | 90 => 61#32
  | 91 => 61#32
  | 92 => 61#32
  | 93 => 61#32
  | 94 => 61#32
  | 95 => 61#32
  | 96 => 61#32
  | 97 => 61#32
  | 98 => 61#32
  | 99 => 61#32
  | 100 => 61#32
  | 101 => 61#32
  | 102 => 61#32
  | 103 => 61#32
  | 104 => 61#32
  | 105 => 61#32
  | 106 => 61#32
  | 107 => 61#32
  | 108 => 61#32
  | 109 => 61#32
  | 110 => 61#32
  | 111 => 61#32
  | 112 => 61#32
  | 113 => 61#32
  | 114 => 61#32
  | 115 => 61#32
  | 116 => 61#32
  | 117 => 61#32
  | 118 => 61#32
  | 119 => 61#32
  | 120 => 61#32
  | 121 => 61#32
  | 122 => 61#32
  | 123 => 61#32
  | 124 => 61#32
  | 125 => 61#32
  | 126 => 61#32
  | 127 => 61#32
  | _ => 0#32

noncomputable abbrev lit1t0_31 (i : Nat) : BitVec 32 := match i % 128 with
  | 0 => 62#32
  | 1 => 62#32
  | 2 => 62#32
  | 3 => 62#32
  | 4 => 62#32
  | 5 => 62#32
  | 6 => 62#32
  | 7 => 62#32
  | 8 => 62#32
  | 9 => 62#32
  | 10 => 62#32
  | 11 => 62#32
  | 12 => 62#32
  | 13 => 62#32
  | 14 => 62#32
  | 15 => 62#32
  | 16 => 62#32
  | 17 => 62#32
  | 18 => 62#32
  | 19 => 62#32
  | 20 => 62#32
  | 21 => 62#32
  | 22 => 62#32
  | 23 => 62#32
  | 24 => 62#32
  | 25 => 62#32
  | 26 => 62#32
  | 27 => 62#32
  | 28 => 62#32
  | 29 => 62#32
  | 30 => 62#32
  | 31 => 62#32
  | 32 => 62#32
  | 33 => 62#32
  | 34 => 62#32
  | 35 => 62#32
  | 36 => 62#32
  | 37 => 62#32
  | 38 => 62#32
  | 39 => 62#32
  | 40 => 62#32
  | 41 => 62#32
  | 42 => 62#32
  | 43 => 62#32
  | 44 => 62#32
  | 45 => 62#32
  | 46 => 62#32
  | 47 => 62#32
  | 48 => 62#32
  | 49 => 62#32
  | 50 => 62#32
  | 51 => 62#32
  | 52 => 62#32
  | 53 => 62#32
  | 54 => 62#32
  | 55 => 62#32
  | 56 => 62#32
  | 57 => 62#32
  | 58 => 62#32
  | 59 => 62#32
  | 60 => 62#32
  | 61 => 62#32
  | 62 => 62#32
  | 63 => 62#32
  | 64 => 63#32
  | 65 => 63#32
  | 66 => 63#32
  | 67 => 63#32
  | 68 => 63#32
  | 69 => 63#32
  | 70 => 63#32
  | 71 => 63#32
  | 72 => 63#32
  | 73 => 63#32
  | 74 => 63#32
  | 75 => 63#32
  | 76 => 63#32
  | 77 => 63#32
  | 78 => 63#32
  | 79 => 63#32
  | 80 => 63#32
  | 81 => 63#32
  | 82 => 63#32
  | 83 => 63#32
  | 84 => 63#32
  | 85 => 63#32
  | 86 => 63#32
  | 87 => 63#32
  | 88 => 63#32
  | 89 => 63#32
  | 90 => 63#32
  | 91 => 63#32
  | 92 => 63#32
  | 93 => 63#32
  | 94 => 63#32
  | 95 => 63#32
  | 96 => 63#32
  | 97 => 63#32
  | 98 => 63#32
  | 99 => 63#32
  | 100 => 63#32
  | 101 => 63#32
  | 102 => 63#32
  | 103 => 63#32
  | 104 => 63#32
  | 105 => 63#32
  | 106 => 63#32
  | 107 => 63#32
  | 108 => 63#32
  | 109 => 63#32
  | 110 => 63#32
  | 111 => 63#32
  | 112 => 63#32
  | 113 => 63#32
  | 114 => 63#32
  | 115 => 63#32
  | 116 => 63#32
  | 117 => 63#32
  | 118 => 63#32
  | 119 => 63#32
  | 120 => 63#32
  | 121 => 63#32
  | 122 => 63#32
  | 123 => 63#32
  | 124 => 63#32
  | 125 => 63#32
  | 126 => 63#32
  | 127 => 63#32
  | _ => 0#32

noncomputable abbrev lit1t0_32 (i : Nat) : BitVec 32 := match i % 128 with
  | 0 => 0#32
  | 1 => 0#32
  | 2 => 0#32
  | 3 => 0#32
  | 4 => 0#32
  | 5 => 0#32
  | 6 => 0#32
  | 7 => 0#32
  | 8 => 0#32
  | 9 => 0#32
  | 10 => 0#32
  | 11 => 0#32
  | 12 => 0#32
  | 13 => 0#32
  | 14 => 0#32
  | 15 => 0#32
  | 16 => 0#32
  | 17 => 0#32
  | 18 => 0#32
  | 19 => 0#32
  | 20 => 0#32
  | 21 => 0#32
  | 22 => 0#32
  | 23 => 0#32
  | 24 => 0#32
  | 25 => 0#32
  | 26 => 0#32
  | 27 => 0#32
  | 28 => 0#32
  | 29 => 0#32
  | 30 => 0#32
  | 31 => 0#32
  | 32 => 1#32
  | 33 => 1#32
  | 34 => 1#32
  | 35 => 1#32
  | 36 => 1#32
  | 37 => 1#32
  | 38 => 1#32
  | 39 => 1#32
  | 40 => 1#32
  | 41 => 1#32
  | 42 => 1#32
  | 43 => 1#32
  | 44 => 1#32
  | 45 => 1#32
  | 46 => 1#32
  | 47 => 1#32
  | 48 => 1#32
  | 49 => 1#32
  | 50 => 1#32
  | 51 => 1#32
  | 52 => 1#32
  | 53 => 1#32
  | 54 => 1#32
  | 55 => 1#32
  | 56 => 1#32
  | 57 => 1#32
  | 58 => 1#32
  | 59 => 1#32
  | 60 => 1#32
  | 61 => 1#32
  | 62 => 1#32
  | 63 => 1#32
  | 64 => 2#32
  | 65 => 2#32
  | 66 => 2#32
  | 67 => 2#32
  | 68 => 2#32
  | 69 => 2#32
  | 70 => 2#32
  | 71 => 2#32
  | 72 => 2#32
  | 73 => 2#32
  | 74 => 2#32
  | 75 => 2#32
  | 76 => 2#32
  | 77 => 2#32
  | 78 => 2#32
  | 79 => 2#32
  | 80 => 2#32
  | 81 => 2#32
  | 82 => 2#32
  | 83 => 2#32
  | 84 => 2#32
  | 85 => 2#32
  | 86 => 2#32
  | 87 => 2#32
  | 88 => 2#32
  | 89 => 2#32
  | 90 => 2#32
  | 91 => 2#32
  | 92 => 2#32
  | 93 => 2#32
  | 94 => 2#32
  | 95 => 2#32
  | 96 => 3#32
  | 97 => 3#32
  | 98 => 3#32
  | 99 => 3#32
  | 100 => 3#32
  | 101 => 3#32
  | 102 => 3#32
  | 103 => 3#32
  | 104 => 3#32
  | 105 => 3#32
  | 106 => 3#32
  | 107 => 3#32
  | 108 => 3#32
  | 109 => 3#32
  | 110 => 3#32
  | 111 => 3#32
  | 112 => 3#32
  | 113 => 3#32
  | 114 => 3#32
  | 115 => 3#32
  | 116 => 3#32
  | 117 => 3#32
  | 118 => 3#32
  | 119 => 3#32
  | 120 => 3#32
  | 121 => 3#32
  | 122 => 3#32
  | 123 => 3#32
  | 124 => 3#32
  | 125 => 3#32
  | 126 => 3#32
  | 127 => 3#32
  | _ => 0#32

noncomputable abbrev lit1t0_33 (i : Nat) : BitVec 32 := match i % 128 with
  | 0 => 4#32
  | 1 => 4#32
  | 2 => 4#32
  | 3 => 4#32
  | 4 => 4#32
  | 5 => 4#32
  | 6 => 4#32
  | 7 => 4#32
  | 8 => 4#32
  | 9 => 4#32
  | 10 => 4#32
  | 11 => 4#32
  | 12 => 4#32
  | 13 => 4#32
  | 14 => 4#32
  | 15 => 4#32
  | 16 => 4#32
  | 17 => 4#32
  | 18 => 4#32
  | 19 => 4#32
  | 20 => 4#32
  | 21 => 4#32
  | 22 => 4#32
  | 23 => 4#32
  | 24 => 4#32
  | 25 => 4#32
  | 26 => 4#32
  | 27 => 4#32
  | 28 => 4#32
  | 29 => 4#32
  | 30 => 4#32
  | 31 => 4#32
  | 32 => 5#32
  | 33 => 5#32
  | 34 => 5#32
  | 35 => 5#32
  | 36 => 5#32
  | 37 => 5#32
  | 38 => 5#32
  | 39 => 5#32
  | 40 => 5#32
  | 41 => 5#32
  | 42 => 5#32
  | 43 => 5#32
  | 44 => 5#32
  | 45 => 5#32
  | 46 => 5#32
  | 47 => 5#32
  | 48 => 5#32
  | 49 => 5#32
  | 50 => 5#32
  | 51 => 5#32
  | 52 => 5#32
  | 53 => 5#32
  | 54 => 5#32
  | 55 => 5#32
  | 56 => 5#32
  | 57 => 5#32
  | 58 => 5#32
  | 59 => 5#32
  | 60 => 5#32
  | 61 => 5#32
  | 62 => 5#32
  | 63 => 5#32
  | 64 => 6#32
  | 65 => 6#32
  | 66 => 6#32
  | 67 => 6#32
  | 68 => 6#32
  | 69 => 6#32
  | 70 => 6#32
  | 71 => 6#32
  | 72 => 6#32
  | 73 => 6#32
  | 74 => 6#32
  | 75 => 6#32
  | 76 => 6#32
  | 77 => 6#32
  | 78 => 6#32
  | 79 => 6#32
  | 80 => 6#32
  | 81 => 6#32
  | 82 => 6#32
  | 83 => 6#32
  | 84 => 6#32
  | 85 => 6#32
  | 86 => 6#32
  | 87 => 6#32
  | 88 => 6#32
  | 89 => 6#32
  | 90 => 6#32
  | 91 => 6#32
  | 92 => 6#32
  | 93 => 6#32
  | 94 => 6#32
  | 95 => 6#32
  | 96 => 7#32
  | 97 => 7#32
  | 98 => 7#32
  | 99 => 7#32
  | 100 => 7#32
  | 101 => 7#32
  | 102 => 7#32
  | 103 => 7#32
  | 104 => 7#32
  | 105 => 7#32
  | 106 => 7#32
  | 107 => 7#32
  | 108 => 7#32
  | 109 => 7#32
  | 110 => 7#32
  | 111 => 7#32
  | 112 => 7#32
  | 113 => 7#32
  | 114 => 7#32
  | 115 => 7#32
  | 116 => 7#32
  | 117 => 7#32
  | 118 => 7#32
  | 119 => 7#32
  | 120 => 7#32
  | 121 => 7#32
  | 122 => 7#32
  | 123 => 7#32
  | 124 => 7#32
  | 125 => 7#32
  | 126 => 7#32
  | 127 => 7#32
  | _ => 0#32

noncomputable abbrev lit1t0_34 (i : Nat) : BitVec 32 := match i % 128 with
  | 0 => 8#32
  | 1 => 8#32
  | 2 => 8#32
  | 3 => 8#32
  | 4 => 8#32
  | 5 => 8#32
  | 6 => 8#32
  | 7 => 8#32
  | 8 => 8#32
  | 9 => 8#32
  | 10 => 8#32
  | 11 => 8#32
  | 12 => 8#32
  | 13 => 8#32
  | 14 => 8#32
  | 15 => 8#32
  | 16 => 8#32
  | 17 => 8#32
  | 18 => 8#32
  | 19 => 8#32
  | 20 => 8#32
  | 21 => 8#32
  | 22 => 8#32
  | 23 => 8#32
  | 24 => 8#32
  | 25 => 8#32
  | 26 => 8#32
  | 27 => 8#32
  | 28 => 8#32
  | 29 => 8#32
  | 30 => 8#32
  | 31 => 8#32
  | 32 => 9#32
  | 33 => 9#32
  | 34 => 9#32
  | 35 => 9#32
  | 36 => 9#32
  | 37 => 9#32
  | 38 => 9#32
  | 39 => 9#32
  | 40 => 9#32
  | 41 => 9#32
  | 42 => 9#32
  | 43 => 9#32
  | 44 => 9#32
  | 45 => 9#32
  | 46 => 9#32
  | 47 => 9#32
  | 48 => 9#32
  | 49 => 9#32
  | 50 => 9#32
  | 51 => 9#32
  | 52 => 9#32
  | 53 => 9#32
  | 54 => 9#32
  | 55 => 9#32
  | 56 => 9#32
  | 57 => 9#32
  | 58 => 9#32
  | 59 => 9#32
  | 60 => 9#32
  | 61 => 9#32
  | 62 => 9#32
  | 63 => 9#32
  | 64 => 10#32
  | 65 => 10#32
  | 66 => 10#32
  | 67 => 10#32
  | 68 => 10#32
  | 69 => 10#32
  | 70 => 10#32
  | 71 => 10#32
  | 72 => 10#32
  | 73 => 10#32
  | 74 => 10#32
  | 75 => 10#32
  | 76 => 10#32
  | 77 => 10#32
  | 78 => 10#32
  | 79 => 10#32
  | 80 => 10#32
  | 81 => 10#32
  | 82 => 10#32
  | 83 => 10#32
  | 84 => 10#32
  | 85 => 10#32
  | 86 => 10#32
  | 87 => 10#32
  | 88 => 10#32
  | 89 => 10#32
  | 90 => 10#32
  | 91 => 10#32
  | 92 => 10#32
  | 93 => 10#32
  | 94 => 10#32
  | 95 => 10#32
  | 96 => 11#32
  | 97 => 11#32
  | 98 => 11#32
  | 99 => 11#32
  | 100 => 11#32
  | 101 => 11#32
  | 102 => 11#32
  | 103 => 11#32
  | 104 => 11#32
  | 105 => 11#32
  | 106 => 11#32
  | 107 => 11#32
  | 108 => 11#32
  | 109 => 11#32
  | 110 => 11#32
  | 111 => 11#32
  | 112 => 11#32
  | 113 => 11#32
  | 114 => 11#32
  | 115 => 11#32
  | 116 => 11#32
  | 117 => 11#32
  | 118 => 11#32
  | 119 => 11#32
  | 120 => 11#32
  | 121 => 11#32
  | 122 => 11#32
  | 123 => 11#32
  | 124 => 11#32
  | 125 => 11#32
  | 126 => 11#32
  | 127 => 11#32
  | _ => 0#32

noncomputable abbrev lit1t0_35 (i : Nat) : BitVec 32 := match i % 128 with
  | 0 => 12#32
  | 1 => 12#32
  | 2 => 12#32
  | 3 => 12#32
  | 4 => 12#32
  | 5 => 12#32
  | 6 => 12#32
  | 7 => 12#32
  | 8 => 12#32
  | 9 => 12#32
  | 10 => 12#32
  | 11 => 12#32
  | 12 => 12#32
  | 13 => 12#32
  | 14 => 12#32
  | 15 => 12#32
  | 16 => 12#32
  | 17 => 12#32
  | 18 => 12#32
  | 19 => 12#32
  | 20 => 12#32
  | 21 => 12#32
  | 22 => 12#32
  | 23 => 12#32
  | 24 => 12#32
  | 25 => 12#32
  | 26 => 12#32
  | 27 => 12#32
  | 28 => 12#32
  | 29 => 12#32
  | 30 => 12#32
  | 31 => 12#32
  | 32 => 13#32
  | 33 => 13#32
  | 34 => 13#32
  | 35 => 13#32
  | 36 => 13#32
  | 37 => 13#32
  | 38 => 13#32
  | 39 => 13#32
  | 40 => 13#32
  | 41 => 13#32
  | 42 => 13#32
  | 43 => 13#32
  | 44 => 13#32
  | 45 => 13#32
  | 46 => 13#32
  | 47 => 13#32
  | 48 => 13#32
  | 49 => 13#32
  | 50 => 13#32
  | 51 => 13#32
  | 52 => 13#32
  | 53 => 13#32
  | 54 => 13#32
  | 55 => 13#32
  | 56 => 13#32
  | 57 => 13#32
  | 58 => 13#32
  | 59 => 13#32
  | 60 => 13#32
  | 61 => 13#32
  | 62 => 13#32
  | 63 => 13#32
  | 64 => 14#32
  | 65 => 14#32
  | 66 => 14#32
  | 67 => 14#32
  | 68 => 14#32
  | 69 => 14#32
  | 70 => 14#32
  | 71 => 14#32
  | 72 => 14#32
  | 73 => 14#32
  | 74 => 14#32
  | 75 => 14#32
  | 76 => 14#32
  | 77 => 14#32
  | 78 => 14#32
  | 79 => 14#32
  | 80 => 14#32
  | 81 => 14#32
  | 82 => 14#32
  | 83 => 14#32
  | 84 => 14#32
  | 85 => 14#32
  | 86 => 14#32
  | 87 => 14#32
  | 88 => 14#32
  | 89 => 14#32
  | 90 => 14#32
  | 91 => 14#32
  | 92 => 14#32
  | 93 => 14#32
  | 94 => 14#32
  | 95 => 14#32
  | 96 => 15#32
  | 97 => 15#32
  | 98 => 15#32
  | 99 => 15#32
  | 100 => 15#32
  | 101 => 15#32
  | 102 => 15#32
  | 103 => 15#32
  | 104 => 15#32
  | 105 => 15#32
  | 106 => 15#32
  | 107 => 15#32
  | 108 => 15#32
  | 109 => 15#32
  | 110 => 15#32
  | 111 => 15#32
  | 112 => 15#32
  | 113 => 15#32
  | 114 => 15#32
  | 115 => 15#32
  | 116 => 15#32
  | 117 => 15#32
  | 118 => 15#32
  | 119 => 15#32
  | 120 => 15#32
  | 121 => 15#32
  | 122 => 15#32
  | 123 => 15#32
  | 124 => 15#32
  | 125 => 15#32
  | 126 => 15#32
  | 127 => 15#32
  | _ => 0#32

noncomputable abbrev lit1t0_36 (i : Nat) : BitVec 32 := match i % 128 with
  | 0 => 16#32
  | 1 => 16#32
  | 2 => 16#32
  | 3 => 16#32
  | 4 => 16#32
  | 5 => 16#32
  | 6 => 16#32
  | 7 => 16#32
  | 8 => 16#32
  | 9 => 16#32
  | 10 => 16#32
  | 11 => 16#32
  | 12 => 16#32
  | 13 => 16#32
  | 14 => 16#32
  | 15 => 16#32
  | 16 => 16#32
  | 17 => 16#32
  | 18 => 16#32
  | 19 => 16#32
  | 20 => 16#32
  | 21 => 16#32
  | 22 => 16#32
  | 23 => 16#32
  | 24 => 16#32
  | 25 => 16#32
  | 26 => 16#32
  | 27 => 16#32
  | 28 => 16#32
  | 29 => 16#32
  | 30 => 16#32
  | 31 => 16#32
  | 32 => 17#32
  | 33 => 17#32
  | 34 => 17#32
  | 35 => 17#32
  | 36 => 17#32
  | 37 => 17#32
  | 38 => 17#32
  | 39 => 17#32
  | 40 => 17#32
  | 41 => 17#32
  | 42 => 17#32
  | 43 => 17#32
  | 44 => 17#32
  | 45 => 17#32
  | 46 => 17#32
  | 47 => 17#32
  | 48 => 17#32
  | 49 => 17#32
  | 50 => 17#32
  | 51 => 17#32
  | 52 => 17#32
  | 53 => 17#32
  | 54 => 17#32
  | 55 => 17#32
  | 56 => 17#32
  | 57 => 17#32
  | 58 => 17#32
  | 59 => 17#32
  | 60 => 17#32
  | 61 => 17#32
  | 62 => 17#32
  | 63 => 17#32
  | 64 => 18#32
  | 65 => 18#32
  | 66 => 18#32
  | 67 => 18#32
  | 68 => 18#32
  | 69 => 18#32
  | 70 => 18#32
  | 71 => 18#32
  | 72 => 18#32
  | 73 => 18#32
  | 74 => 18#32
  | 75 => 18#32
  | 76 => 18#32
  | 77 => 18#32
  | 78 => 18#32
  | 79 => 18#32
  | 80 => 18#32
  | 81 => 18#32
  | 82 => 18#32
  | 83 => 18#32
  | 84 => 18#32
  | 85 => 18#32
  | 86 => 18#32
  | 87 => 18#32
  | 88 => 18#32
  | 89 => 18#32
  | 90 => 18#32
  | 91 => 18#32
  | 92 => 18#32
  | 93 => 18#32
  | 94 => 18#32
  | 95 => 18#32
  | 96 => 19#32
  | 97 => 19#32
  | 98 => 19#32
  | 99 => 19#32
  | 100 => 19#32
  | 101 => 19#32
  | 102 => 19#32
  | 103 => 19#32
  | 104 => 19#32
  | 105 => 19#32
  | 106 => 19#32
  | 107 => 19#32
  | 108 => 19#32
  | 109 => 19#32
  | 110 => 19#32
  | 111 => 19#32
  | 112 => 19#32
  | 113 => 19#32
  | 114 => 19#32
  | 115 => 19#32
  | 116 => 19#32
  | 117 => 19#32
  | 118 => 19#32
  | 119 => 19#32
  | 120 => 19#32
  | 121 => 19#32
  | 122 => 19#32
  | 123 => 19#32
  | 124 => 19#32
  | 125 => 19#32
  | 126 => 19#32
  | 127 => 19#32
  | _ => 0#32

noncomputable abbrev lit1t0_37 (i : Nat) : BitVec 32 := match i % 128 with
  | 0 => 20#32
  | 1 => 20#32
  | 2 => 20#32
  | 3 => 20#32
  | 4 => 20#32
  | 5 => 20#32
  | 6 => 20#32
  | 7 => 20#32
  | 8 => 20#32
  | 9 => 20#32
  | 10 => 20#32
  | 11 => 20#32
  | 12 => 20#32
  | 13 => 20#32
  | 14 => 20#32
  | 15 => 20#32
  | 16 => 20#32
  | 17 => 20#32
  | 18 => 20#32
  | 19 => 20#32
  | 20 => 20#32
  | 21 => 20#32
  | 22 => 20#32
  | 23 => 20#32
  | 24 => 20#32
  | 25 => 20#32
  | 26 => 20#32
  | 27 => 20#32
  | 28 => 20#32
  | 29 => 20#32
  | 30 => 20#32
  | 31 => 20#32
  | 32 => 21#32
  | 33 => 21#32
  | 34 => 21#32
  | 35 => 21#32
  | 36 => 21#32
  | 37 => 21#32
  | 38 => 21#32
  | 39 => 21#32
  | 40 => 21#32
  | 41 => 21#32
  | 42 => 21#32
  | 43 => 21#32
  | 44 => 21#32
  | 45 => 21#32
  | 46 => 21#32
  | 47 => 21#32
  | 48 => 21#32
  | 49 => 21#32
  | 50 => 21#32
  | 51 => 21#32
  | 52 => 21#32
  | 53 => 21#32
  | 54 => 21#32
  | 55 => 21#32
  | 56 => 21#32
  | 57 => 21#32
  | 58 => 21#32
  | 59 => 21#32
  | 60 => 21#32
  | 61 => 21#32
  | 62 => 21#32
  | 63 => 21#32
  | 64 => 22#32
  | 65 => 22#32
  | 66 => 22#32
  | 67 => 22#32
  | 68 => 22#32
  | 69 => 22#32
  | 70 => 22#32
  | 71 => 22#32
  | 72 => 22#32
  | 73 => 22#32
  | 74 => 22#32
  | 75 => 22#32
  | 76 => 22#32
  | 77 => 22#32
  | 78 => 22#32
  | 79 => 22#32
  | 80 => 22#32
  | 81 => 22#32
  | 82 => 22#32
  | 83 => 22#32
  | 84 => 22#32
  | 85 => 22#32
  | 86 => 22#32
  | 87 => 22#32
  | 88 => 22#32
  | 89 => 22#32
  | 90 => 22#32
  | 91 => 22#32
  | 92 => 22#32
  | 93 => 22#32
  | 94 => 22#32
  | 95 => 22#32
  | 96 => 23#32
  | 97 => 23#32
  | 98 => 23#32
  | 99 => 23#32
  | 100 => 23#32
  | 101 => 23#32
  | 102 => 23#32
  | 103 => 23#32
  | 104 => 23#32
  | 105 => 23#32
  | 106 => 23#32
  | 107 => 23#32
  | 108 => 23#32
  | 109 => 23#32
  | 110 => 23#32
  | 111 => 23#32
  | 112 => 23#32
  | 113 => 23#32
  | 114 => 23#32
  | 115 => 23#32
  | 116 => 23#32
  | 117 => 23#32
  | 118 => 23#32
  | 119 => 23#32
  | 120 => 23#32
  | 121 => 23#32
  | 122 => 23#32
  | 123 => 23#32
  | 124 => 23#32
  | 125 => 23#32
  | 126 => 23#32
  | 127 => 23#32
  | _ => 0#32

noncomputable abbrev lit1t0_38 (i : Nat) : BitVec 32 := match i % 128 with
  | 0 => 24#32
  | 1 => 24#32
  | 2 => 24#32
  | 3 => 24#32
  | 4 => 24#32
  | 5 => 24#32
  | 6 => 24#32
  | 7 => 24#32
  | 8 => 24#32
  | 9 => 24#32
  | 10 => 24#32
  | 11 => 24#32
  | 12 => 24#32
  | 13 => 24#32
  | 14 => 24#32
  | 15 => 24#32
  | 16 => 24#32
  | 17 => 24#32
  | 18 => 24#32
  | 19 => 24#32
  | 20 => 24#32
  | 21 => 24#32
  | 22 => 24#32
  | 23 => 24#32
  | 24 => 24#32
  | 25 => 24#32
  | 26 => 24#32
  | 27 => 24#32
  | 28 => 24#32
  | 29 => 24#32
  | 30 => 24#32
  | 31 => 24#32
  | 32 => 25#32
  | 33 => 25#32
  | 34 => 25#32
  | 35 => 25#32
  | 36 => 25#32
  | 37 => 25#32
  | 38 => 25#32
  | 39 => 25#32
  | 40 => 25#32
  | 41 => 25#32
  | 42 => 25#32
  | 43 => 25#32
  | 44 => 25#32
  | 45 => 25#32
  | 46 => 25#32
  | 47 => 25#32
  | 48 => 25#32
  | 49 => 25#32
  | 50 => 25#32
  | 51 => 25#32
  | 52 => 25#32
  | 53 => 25#32
  | 54 => 25#32
  | 55 => 25#32
  | 56 => 25#32
  | 57 => 25#32
  | 58 => 25#32
  | 59 => 25#32
  | 60 => 25#32
  | 61 => 25#32
  | 62 => 25#32
  | 63 => 25#32
  | 64 => 26#32
  | 65 => 26#32
  | 66 => 26#32
  | 67 => 26#32
  | 68 => 26#32
  | 69 => 26#32
  | 70 => 26#32
  | 71 => 26#32
  | 72 => 26#32
  | 73 => 26#32
  | 74 => 26#32
  | 75 => 26#32
  | 76 => 26#32
  | 77 => 26#32
  | 78 => 26#32
  | 79 => 26#32
  | 80 => 26#32
  | 81 => 26#32
  | 82 => 26#32
  | 83 => 26#32
  | 84 => 26#32
  | 85 => 26#32
  | 86 => 26#32
  | 87 => 26#32
  | 88 => 26#32
  | 89 => 26#32
  | 90 => 26#32
  | 91 => 26#32
  | 92 => 26#32
  | 93 => 26#32
  | 94 => 26#32
  | 95 => 26#32
  | 96 => 27#32
  | 97 => 27#32
  | 98 => 27#32
  | 99 => 27#32
  | 100 => 27#32
  | 101 => 27#32
  | 102 => 27#32
  | 103 => 27#32
  | 104 => 27#32
  | 105 => 27#32
  | 106 => 27#32
  | 107 => 27#32
  | 108 => 27#32
  | 109 => 27#32
  | 110 => 27#32
  | 111 => 27#32
  | 112 => 27#32
  | 113 => 27#32
  | 114 => 27#32
  | 115 => 27#32
  | 116 => 27#32
  | 117 => 27#32
  | 118 => 27#32
  | 119 => 27#32
  | 120 => 27#32
  | 121 => 27#32
  | 122 => 27#32
  | 123 => 27#32
  | 124 => 27#32
  | 125 => 27#32
  | 126 => 27#32
  | 127 => 27#32
  | _ => 0#32

noncomputable abbrev lit1t0_39 (i : Nat) : BitVec 32 := match i % 128 with
  | 0 => 28#32
  | 1 => 28#32
  | 2 => 28#32
  | 3 => 28#32
  | 4 => 28#32
  | 5 => 28#32
  | 6 => 28#32
  | 7 => 28#32
  | 8 => 28#32
  | 9 => 28#32
  | 10 => 28#32
  | 11 => 28#32
  | 12 => 28#32
  | 13 => 28#32
  | 14 => 28#32
  | 15 => 28#32
  | 16 => 28#32
  | 17 => 28#32
  | 18 => 28#32
  | 19 => 28#32
  | 20 => 28#32
  | 21 => 28#32
  | 22 => 28#32
  | 23 => 28#32
  | 24 => 28#32
  | 25 => 28#32
  | 26 => 28#32
  | 27 => 28#32
  | 28 => 28#32
  | 29 => 28#32
  | 30 => 28#32
  | 31 => 28#32
  | 32 => 29#32
  | 33 => 29#32
  | 34 => 29#32
  | 35 => 29#32
  | 36 => 29#32
  | 37 => 29#32
  | 38 => 29#32
  | 39 => 29#32
  | 40 => 29#32
  | 41 => 29#32
  | 42 => 29#32
  | 43 => 29#32
  | 44 => 29#32
  | 45 => 29#32
  | 46 => 29#32
  | 47 => 29#32
  | 48 => 29#32
  | 49 => 29#32
  | 50 => 29#32
  | 51 => 29#32
  | 52 => 29#32
  | 53 => 29#32
  | 54 => 29#32
  | 55 => 29#32
  | 56 => 29#32
  | 57 => 29#32
  | 58 => 29#32
  | 59 => 29#32
  | 60 => 29#32
  | 61 => 29#32
  | 62 => 29#32
  | 63 => 29#32
  | 64 => 30#32
  | 65 => 30#32
  | 66 => 30#32
  | 67 => 30#32
  | 68 => 30#32
  | 69 => 30#32
  | 70 => 30#32
  | 71 => 30#32
  | 72 => 30#32
  | 73 => 30#32
  | 74 => 30#32
  | 75 => 30#32
  | 76 => 30#32
  | 77 => 30#32
  | 78 => 30#32
  | 79 => 30#32
  | 80 => 30#32
  | 81 => 30#32
  | 82 => 30#32
  | 83 => 30#32
  | 84 => 30#32
  | 85 => 30#32
  | 86 => 30#32
  | 87 => 30#32
  | 88 => 30#32
  | 89 => 30#32
  | 90 => 30#32
  | 91 => 30#32
  | 92 => 30#32
  | 93 => 30#32
  | 94 => 30#32
  | 95 => 30#32
  | 96 => 31#32
  | 97 => 31#32
  | 98 => 31#32
  | 99 => 31#32
  | 100 => 31#32
  | 101 => 31#32
  | 102 => 31#32
  | 103 => 31#32
  | 104 => 31#32
  | 105 => 31#32
  | 106 => 31#32
  | 107 => 31#32
  | 108 => 31#32
  | 109 => 31#32
  | 110 => 31#32
  | 111 => 31#32
  | 112 => 31#32
  | 113 => 31#32
  | 114 => 31#32
  | 115 => 31#32
  | 116 => 31#32
  | 117 => 31#32
  | 118 => 31#32
  | 119 => 31#32
  | 120 => 31#32
  | 121 => 31#32
  | 122 => 31#32
  | 123 => 31#32
  | 124 => 31#32
  | 125 => 31#32
  | 126 => 31#32
  | 127 => 31#32
  | _ => 0#32

noncomputable abbrev lit1t0_40 (i : Nat) : BitVec 32 := match i % 128 with
  | 0 => 0#32
  | 1 => 0#32
  | 2 => 0#32
  | 3 => 0#32
  | 4 => 0#32
  | 5 => 0#32
  | 6 => 0#32
  | 7 => 0#32
  | 8 => 0#32
  | 9 => 0#32
  | 10 => 0#32
  | 11 => 0#32
  | 12 => 0#32
  | 13 => 0#32
  | 14 => 0#32
  | 15 => 0#32
  | 16 => 1#32
  | 17 => 1#32
  | 18 => 1#32
  | 19 => 1#32
  | 20 => 1#32
  | 21 => 1#32
  | 22 => 1#32
  | 23 => 1#32
  | 24 => 1#32
  | 25 => 1#32
  | 26 => 1#32
  | 27 => 1#32
  | 28 => 1#32
  | 29 => 1#32
  | 30 => 1#32
  | 31 => 1#32
  | 32 => 2#32
  | 33 => 2#32
  | 34 => 2#32
  | 35 => 2#32
  | 36 => 2#32
  | 37 => 2#32
  | 38 => 2#32
  | 39 => 2#32
  | 40 => 2#32
  | 41 => 2#32
  | 42 => 2#32
  | 43 => 2#32
  | 44 => 2#32
  | 45 => 2#32
  | 46 => 2#32
  | 47 => 2#32
  | 48 => 3#32
  | 49 => 3#32
  | 50 => 3#32
  | 51 => 3#32
  | 52 => 3#32
  | 53 => 3#32
  | 54 => 3#32
  | 55 => 3#32
  | 56 => 3#32
  | 57 => 3#32
  | 58 => 3#32
  | 59 => 3#32
  | 60 => 3#32
  | 61 => 3#32
  | 62 => 3#32
  | 63 => 3#32
  | 64 => 4#32
  | 65 => 4#32
  | 66 => 4#32
  | 67 => 4#32
  | 68 => 4#32
  | 69 => 4#32
  | 70 => 4#32
  | 71 => 4#32
  | 72 => 4#32
  | 73 => 4#32
  | 74 => 4#32
  | 75 => 4#32
  | 76 => 4#32
  | 77 => 4#32
  | 78 => 4#32
  | 79 => 4#32
  | 80 => 5#32
  | 81 => 5#32
  | 82 => 5#32
  | 83 => 5#32
  | 84 => 5#32
  | 85 => 5#32
  | 86 => 5#32
  | 87 => 5#32
  | 88 => 5#32
  | 89 => 5#32
  | 90 => 5#32
  | 91 => 5#32
  | 92 => 5#32
  | 93 => 5#32
  | 94 => 5#32
  | 95 => 5#32
  | 96 => 6#32
  | 97 => 6#32
  | 98 => 6#32
  | 99 => 6#32
  | 100 => 6#32
  | 101 => 6#32
  | 102 => 6#32
  | 103 => 6#32
  | 104 => 6#32
  | 105 => 6#32
  | 106 => 6#32
  | 107 => 6#32
  | 108 => 6#32
  | 109 => 6#32
  | 110 => 6#32
  | 111 => 6#32
  | 112 => 7#32
  | 113 => 7#32
  | 114 => 7#32
  | 115 => 7#32
  | 116 => 7#32
  | 117 => 7#32
  | 118 => 7#32
  | 119 => 7#32
  | 120 => 7#32
  | 121 => 7#32
  | 122 => 7#32
  | 123 => 7#32
  | 124 => 7#32
  | 125 => 7#32
  | 126 => 7#32
  | 127 => 7#32
  | _ => 0#32

noncomputable abbrev lit1t0_41 (i : Nat) : BitVec 32 := match i % 128 with
  | 0 => 8#32
  | 1 => 8#32
  | 2 => 8#32
  | 3 => 8#32
  | 4 => 8#32
  | 5 => 8#32
  | 6 => 8#32
  | 7 => 8#32
  | 8 => 8#32
  | 9 => 8#32
  | 10 => 8#32
  | 11 => 8#32
  | 12 => 8#32
  | 13 => 8#32
  | 14 => 8#32
  | 15 => 8#32
  | 16 => 9#32
  | 17 => 9#32
  | 18 => 9#32
  | 19 => 9#32
  | 20 => 9#32
  | 21 => 9#32
  | 22 => 9#32
  | 23 => 9#32
  | 24 => 9#32
  | 25 => 9#32
  | 26 => 9#32
  | 27 => 9#32
  | 28 => 9#32
  | 29 => 9#32
  | 30 => 9#32
  | 31 => 9#32
  | 32 => 10#32
  | 33 => 10#32
  | 34 => 10#32
  | 35 => 10#32
  | 36 => 10#32
  | 37 => 10#32
  | 38 => 10#32
  | 39 => 10#32
  | 40 => 10#32
  | 41 => 10#32
  | 42 => 10#32
  | 43 => 10#32
  | 44 => 10#32
  | 45 => 10#32
  | 46 => 10#32
  | 47 => 10#32
  | 48 => 11#32
  | 49 => 11#32
  | 50 => 11#32
  | 51 => 11#32
  | 52 => 11#32
  | 53 => 11#32
  | 54 => 11#32
  | 55 => 11#32
  | 56 => 11#32
  | 57 => 11#32
  | 58 => 11#32
  | 59 => 11#32
  | 60 => 11#32
  | 61 => 11#32
  | 62 => 11#32
  | 63 => 11#32
  | 64 => 12#32
  | 65 => 12#32
  | 66 => 12#32
  | 67 => 12#32
  | 68 => 12#32
  | 69 => 12#32
  | 70 => 12#32
  | 71 => 12#32
  | 72 => 12#32
  | 73 => 12#32
  | 74 => 12#32
  | 75 => 12#32
  | 76 => 12#32
  | 77 => 12#32
  | 78 => 12#32
  | 79 => 12#32
  | 80 => 13#32
  | 81 => 13#32
  | 82 => 13#32
  | 83 => 13#32
  | 84 => 13#32
  | 85 => 13#32
  | 86 => 13#32
  | 87 => 13#32
  | 88 => 13#32
  | 89 => 13#32
  | 90 => 13#32
  | 91 => 13#32
  | 92 => 13#32
  | 93 => 13#32
  | 94 => 13#32
  | 95 => 13#32
  | 96 => 14#32
  | 97 => 14#32
  | 98 => 14#32
  | 99 => 14#32
  | 100 => 14#32
  | 101 => 14#32
  | 102 => 14#32
  | 103 => 14#32
  | 104 => 14#32
  | 105 => 14#32
  | 106 => 14#32
  | 107 => 14#32
  | 108 => 14#32
  | 109 => 14#32
  | 110 => 14#32
  | 111 => 14#32
  | 112 => 15#32
  | 113 => 15#32
  | 114 => 15#32
  | 115 => 15#32
  | 116 => 15#32
  | 117 => 15#32
  | 118 => 15#32
  | 119 => 15#32
  | 120 => 15#32
  | 121 => 15#32
  | 122 => 15#32
  | 123 => 15#32
  | 124 => 15#32
  | 125 => 15#32
  | 126 => 15#32
  | 127 => 15#32
  | _ => 0#32

noncomputable abbrev lit1t0_42 (i : Nat) : BitVec 32 := match i % 128 with
  | 0 => 0#32
  | 1 => 0#32
  | 2 => 0#32
  | 3 => 0#32
  | 4 => 0#32
  | 5 => 0#32
  | 6 => 0#32
  | 7 => 0#32
  | 8 => 1#32
  | 9 => 1#32
  | 10 => 1#32
  | 11 => 1#32
  | 12 => 1#32
  | 13 => 1#32
  | 14 => 1#32
  | 15 => 1#32
  | 16 => 2#32
  | 17 => 2#32
  | 18 => 2#32
  | 19 => 2#32
  | 20 => 2#32
  | 21 => 2#32
  | 22 => 2#32
  | 23 => 2#32
  | 24 => 3#32
  | 25 => 3#32
  | 26 => 3#32
  | 27 => 3#32
  | 28 => 3#32
  | 29 => 3#32
  | 30 => 3#32
  | 31 => 3#32
  | 32 => 4#32
  | 33 => 4#32
  | 34 => 4#32
  | 35 => 4#32
  | 36 => 4#32
  | 37 => 4#32
  | 38 => 4#32
  | 39 => 4#32
  | 40 => 5#32
  | 41 => 5#32
  | 42 => 5#32
  | 43 => 5#32
  | 44 => 5#32
  | 45 => 5#32
  | 46 => 5#32
  | 47 => 5#32
  | 48 => 6#32
  | 49 => 6#32
  | 50 => 6#32
  | 51 => 6#32
  | 52 => 6#32
  | 53 => 6#32
  | 54 => 6#32
  | 55 => 6#32
  | 56 => 7#32
  | 57 => 7#32
  | 58 => 7#32
  | 59 => 7#32
  | 60 => 7#32
  | 61 => 7#32
  | 62 => 7#32
  | 63 => 7#32
  | 64 => 0#32
  | 65 => 0#32
  | 66 => 0#32
  | 67 => 0#32
  | 68 => 1#32
  | 69 => 1#32
  | 70 => 1#32
  | 71 => 1#32
  | 72 => 2#32
  | 73 => 2#32
  | 74 => 2#32
  | 75 => 2#32
  | 76 => 3#32
  | 77 => 3#32
  | 78 => 3#32
  | 79 => 3#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | 16 => lit1t0_16 i
  | 17 => lit1t0_17 i
  | 18 => lit1t0_18 i
  | 19 => lit1t0_19 i
  | 20 => lit1t0_20 i
  | 21 => lit1t0_21 i
  | 22 => lit1t0_22 i
  | 23 => lit1t0_23 i
  | 24 => lit1t0_24 i
  | 25 => lit1t0_25 i
  | 26 => lit1t0_26 i
  | 27 => lit1t0_27 i
  | 28 => lit1t0_28 i
  | 29 => lit1t0_29 i
  | 30 => lit1t0_30 i
  | 31 => lit1t0_31 i
  | 32 => lit1t0_32 i
  | 33 => lit1t0_33 i
  | 34 => lit1t0_34 i
  | 35 => lit1t0_35 i
  | 36 => lit1t0_36 i
  | 37 => lit1t0_37 i
  | 38 => lit1t0_38 i
  | 39 => lit1t0_39 i
  | 40 => lit1t0_40 i
  | 41 => lit1t0_41 i
  | 42 => lit1t0_42 i
  | _ => 0#32

noncomputable abbrev lit1 : Fin 5456 → BitVec 32 := fun ⟨i, _⟩ => lit1t i

def fn_part1 {F : FTy → Type} [FloatOps F] (main_arg4 : IVec S5456 32) (main_arg5 : IVec S5456 32) (main_c : IVec S5456 32) (main_c_0 : IVec S5456 32) (main_v2 : FVec F S2x8 .f32) (main_v7 : IVec S2x5456x80 1) (main_v12 : IVec S2x8x4 1) (main_v14 : IVec S2x8 1) (main_v15 : FVec F S2x8 .f32) : IVec S2x5456x80 1 × IVec S2x8x4 1 × IVec S2x8 1 × IVec S5456 1 × IVec S5456 1 :=
  let main_v16 : IVec S2x8 1 := cmpf .olt main_v2 main_v15
  let main_v17 : IVec S2x8 1 := andi main_v14 main_v16
  let main_v18 : FVec F S2x8 .f32 := Host.floor main_v2
  let main_v19 : IVec S2x8 1 := cmpf .oeq main_v18 main_v2
  let main_v20 : IVec S2x8 1 := andi main_v17 main_v19
  let main_v21 : IVec S5456 1 := cmpi .eq main_arg4 main_c
  let main_v22 : IVec S5456 1 := cmpi .eq main_arg5 main_c_0
  (main_v7, main_v12, main_v20, main_v21, main_v22)

def fn {F : FTy → Type} [FloatOps F] (main_arg0 : FVec F S2x5456x80 .f32) (main_arg1 : FVec F S2x5456x4 .f32) (main_arg2 : FVec F S2x8x5 .f32) (main_arg3 : FVec F S2x3x512x512 .f32) (main_arg4 : IVec S5456 32) (main_arg5 : IVec S5456 32) (main_arg6 : IVec S_ 32) : IVec S2x5456x80 1 × IVec S2x8x4 1 × IVec S2x8 1 × IVec S5456 1 × IVec S5456 1 :=
  let main_c : IVec S5456 32 := fun i => lit0 (S5456.rowMajor i)
  let main_c_0 : IVec S5456 32 := fun i => lit1 (S5456.rowMajor i)
  let main_v0 : FVec F S2x8x4 .f32 := (extractStridedSlice S2x8x4 ![0, 0, 0] · slices_S2x8x5_S2x8x4_0_0_0) main_arg2
  let main_v1 : FVec F S2x8x1 .f32 := (extractStridedSlice S2x8x1 ![0, 0, 4] · slices_S2x8x5_S2x8x1_0_0_4) main_arg2
  let main_v2 : FVec F S2x8 .f32 := shapeCast S2x8 main_v1 shapeCasts_S2x8x1_S2x8
  let main_cst : FVec F S_ .f32 := constant S_ .f32 0x38D1B717#32
  let main_v3 : FVec F S2x5456x80 .f32 := broadcastInDim S2x5456x80 ![] bcast_S_S2x5456x80 main_cst
  let main_v4 : IVec S2x5456x80 1 := cmpf .oge main_arg0 main_v3
  let main_cst_1 : FVec F S_ .f32 := constant S_ .f32 0x3F7FF972#32
  let main_v5 : FVec F S2x5456x80 .f32 := broadcastInDim S2x5456x80 ![] bcast_S_S2x5456x80 main_cst_1
  let main_v6 : IVec S2x5456x80 1 := cmpf .ole main_arg0 main_v5
  let main_v7 : IVec S2x5456x80 1 := andi main_v4 main_v6
  let main_cst_2 : FVec F S_ .f32 := constant S_ .f32 0x00000000#32
  let main_v8 : FVec F S2x8x4 .f32 := broadcastInDim S2x8x4 ![] bcast_S_S2x8x4 main_cst_2
  let main_v9 : IVec S2x8x4 1 := cmpf .oge main_v0 main_v8
  let main_cst_3 : FVec F S_ .f32 := constant S_ .f32 0x7F800000#32
  let main_v10 : FVec F S2x8x4 .f32 := broadcastInDim S2x8x4 ![] bcast_S_S2x8x4 main_cst_3
  let main_v11 : IVec S2x8x4 1 := cmpf .olt main_v0 main_v10
  let main_v12 : IVec S2x8x4 1 := andi main_v9 main_v11
  let main_cst_4 : FVec F S_ .f32 := constant S_ .f32 0xFF800000#32
  let main_v13 : FVec F S2x8 .f32 := broadcastInDim S2x8 ![] bcast_S_S2x8 main_cst_4
  let main_v14 : IVec S2x8 1 := cmpf .ogt main_v2 main_v13
  let main_cst_5 : FVec F S_ .f32 := constant S_ .f32 0x7F800000#32
  let main_v15 : FVec F S2x8 .f32 := broadcastInDim S2x8 ![] bcast_S_S2x8 main_cst_5
  fn_part1 (F := F) main_arg4 main_arg5 main_c main_c_0 main_v2 main_v7 main_v12 main_v14 main_v15
-- ==== Kernel.lean ====
abbrev S2x5456x80 : Shape := ⟨3, ![2, 5456, 80]⟩
abbrev S2x5456x4 : Shape := ⟨3, ![2, 5456, 4]⟩
abbrev S2x8x5 : Shape := ⟨3, ![2, 8, 5]⟩
abbrev S2x3x512x512 : Shape := ⟨4, ![2, 3, 512, 512]⟩
abbrev S5456 : Shape := ⟨1, ![5456]⟩
abbrev S_ : Shape := ⟨0, ![]⟩
abbrev S1x5 : Shape := ⟨2, ![1, 5]⟩
abbrev S2x5456 : Shape := ⟨2, ![2, 5456]⟩
abbrev S5x5456 : Shape := ⟨2, ![5, 5456]⟩
abbrev S1x1 : Shape := ⟨2, ![1, 1]⟩
abbrev S1x8x5 : Shape := ⟨3, ![1, 8, 5]⟩
abbrev S1x5456x80 : Shape := ⟨3, ![1, 5456, 80]⟩
abbrev S2 : Shape := ⟨1, ![2]⟩
abbrev S1 : Shape := ⟨1, ![1]⟩
abbrev S5456x80 : Shape := ⟨2, ![5456, 80]⟩
abbrev S1x5456 : Shape := ⟨2, ![1, 5456]⟩
abbrev S1x8x1 : Shape := ⟨3, ![1, 8, 1]⟩
abbrev S8x1 : Shape := ⟨2, ![8, 1]⟩
abbrev S8x5 : Shape := ⟨2, ![8, 5]⟩
abbrev S64x5 : Shape := ⟨2, ![64, 5]⟩
abbrev S64x5456 : Shape := ⟨2, ![64, 5456]⟩
abbrev S8x5456 : Shape := ⟨2, ![8, 5456]⟩
abbrev S1x80 : Shape := ⟨2, ![1, 80]⟩
abbrev S8x80 : Shape := ⟨2, ![8, 80]⟩
abbrev S1x1x1 : Shape := ⟨3, ![1, 1, 1]⟩

abbrev nBuf : Space → Nat
  | .hbm => 12
  | .vmem => 8
  | .smem => 1
  | _ => 0

abbrev bufTy : (tb : Table) → Fin (tcTables nBuf tb) → BufTy
  | .hbm, ⟨0, _⟩ => ⟨S2x5456x80, .f32⟩
  | .hbm, ⟨1, _⟩ => ⟨S2x5456x4, .f32⟩
  | .hbm, ⟨2, _⟩ => ⟨S2x8x5, .f32⟩
  | .hbm, ⟨3, _⟩ => ⟨S2x3x512x512, .f32⟩
  | .hbm, ⟨4, _⟩ => ⟨S5456, .i32⟩
  | .hbm, ⟨5, _⟩ => ⟨S5456, .i32⟩
  | .hbm, ⟨6, _⟩ => ⟨S_, .i32⟩
  | .hbm, ⟨7, _⟩ => ⟨S1x5, .f32⟩
  | .hbm, ⟨8, _⟩ => ⟨S2x5456, .f32⟩
  | .hbm, ⟨9, _⟩ => ⟨S5x5456, .f32⟩
  | .hbm, ⟨10, _⟩ => ⟨S1x1, .f32⟩
  | .hbm, ⟨11, _⟩ => ⟨S_, .f32⟩
  | .local _ .vmem, ⟨0, _⟩ => ⟨S1x8x5, .f32⟩
  | .local _ .vmem, ⟨1, _⟩ => ⟨S1x8x5, .f32⟩
  | .local _ .vmem, ⟨2, _⟩ => ⟨S1x5456x80, .f32⟩
  | .local _ .vmem, ⟨3, _⟩ => ⟨S1x5456x80, .f32⟩
  | .local _ .vmem, ⟨4, _⟩ => ⟨S1x5, .f32⟩
  | .local _ .vmem, ⟨5, _⟩ => ⟨S2x5456, .f32⟩
  | .local _ .vmem, ⟨6, _⟩ => ⟨S5x5456, .f32⟩
  | .local _ .vmem, ⟨7, _⟩ => ⟨S1x1, .f32⟩
  | .local _ .smem, ⟨0, _⟩ => ⟨S2, .f32⟩
  | _, _ => ⟨S2x5456x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_70 : BitVec 32 := 0#32
  let v214 : BitVec 1 := Scalar.cmpi .eq arg1 c0_i32_70
  let v215 : BitVec 32 := Scalar.extui v214
  let c0_i32_71 : BitVec 32 := 0#32
  let v216 : BitVec 1 := Scalar.cmpi .ne v215 c0_i32_71
  v216

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5456x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x5456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S5x5456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S2x5456x80 : Shape := ⟨3, ![2, 5456, 80]⟩
abbrev S2x5456x4 : Shape := ⟨3, ![2, 5456, 4]⟩
abbrev S2x8x5 : Shape := ⟨3, ![2, 8, 5]⟩
abbrev S2x3x512x512 : Shape := ⟨4, ![2, 3, 512, 512]⟩
abbrev S5456 : Shape := ⟨1, ![5456]⟩
abbrev S_ : Shape := ⟨0, ![]⟩
abbrev S5 : Shape := ⟨1, ![5]⟩
abbrev S1x5456x80 : Shape := ⟨3, ![1, 5456, 80]⟩
abbrev S5456x80 : Shape := ⟨2, ![5456, 80]⟩
abbrev S1x8x5 : Shape := ⟨3, ![1, 8, 5]⟩
abbrev S8x5 : Shape := ⟨2, ![8, 5]⟩
abbrev S8x1 : Shape := ⟨2, ![8, 1]⟩
abbrev S8 : Shape := ⟨1, ![8]⟩
abbrev S8x4 : Shape := ⟨2, ![8, 4]⟩
abbrev S8x1x4 : Shape := ⟨3, ![8, 1, 4]⟩
abbrev S1x5x1 : Shape := ⟨3, ![1, 5, 1]⟩
abbrev S8x5x4 : Shape := ⟨3, ![8, 5, 4]⟩
abbrev S8x5x1 : Shape := ⟨3, ![8, 5, 1]⟩
abbrev S5456x1 : Shape := ⟨2, ![5456, 1]⟩
abbrev S8x5456x4 : Shape := ⟨3, ![8, 5456, 4]⟩
abbrev S1x5456 : Shape := ⟨2, ![1, 5456]⟩
abbrev S8x5456x1 : Shape := ⟨3, ![8, 5456, 1]⟩
abbrev S8x5456 : Shape := ⟨2, ![8, 5456]⟩
abbrev S1x80 : Shape := ⟨2, ![1, 80]⟩
abbrev S8x80 : Shape := ⟨2, ![8, 80]⟩
abbrev S1 : Shape := ⟨1, ![1]⟩
abbrev S2 : Shape := ⟨1, ![2]⟩

abbrev nBuf : Space → Nat
  | .hbm => 554
  | .vmem => 0
  | .smem => 0
  | _ => 0

abbrev hbmTy0_0 (i : Nat) : BufTy := match i % 128 with
  | 0 => ⟨S2x5456x80, .f32⟩
  | 1 => ⟨S2x5456x4, .f32⟩
  | 2 => ⟨S2x8x5, .f32⟩
  | 3 => ⟨S2x3x512x512, .f32⟩
  | 4 => ⟨S5456, .i32⟩
  | 5 => ⟨S5456, .i32⟩
  | 6 => ⟨S_, .i32⟩
  | 7 => ⟨S5456, .i32⟩
  | 8 => ⟨S5, .f32⟩
  | 9 => ⟨S1x5456x80, .f32⟩
  | 10 => ⟨S5456x80, .f32⟩
  | 11 => ⟨S_, .f32⟩
  | 12 => ⟨S_, .f32⟩
  | 13 => ⟨S_, .f32⟩
  | 14 => ⟨S5456x80, .f32⟩
  | 15 => ⟨S5456x80, .f32⟩
  | 16 => ⟨S_, .f32⟩
  | 17 => ⟨S5456x80, .f32⟩
  | 18 => ⟨S5456x80, .f32⟩
  | 19 => ⟨S1x8x5, .f32⟩
  | 20 => ⟨S8x5, .f32⟩
  | 21 => ⟨S8x1, .f32⟩
  | 22 => ⟨S8, .f32⟩
  | 23 => ⟨S_, .f32⟩
  | 24 => ⟨S8, .f32⟩
  | 25 => ⟨S8, .i1⟩
  | 26 => ⟨S8x4, .f32⟩
  | 27 => ⟨S8x1x4, .f32⟩
  | 28 => ⟨S1x5x1, .f32⟩
  | 29 => ⟨S8x5x4, .f32⟩
  | 30 => ⟨S8x5x4, .f32⟩
  | 31 => ⟨S8x5x4, .f32⟩
  | 32 => ⟨S_, .f32⟩
  | 33 => ⟨S8x5x4, .f32⟩
  | 34 => ⟨S8x5x4, .f32⟩
  | 35 => ⟨S1x5x1, .f32⟩
  | 36 => ⟨S8x5x4, .f32⟩
  | 37 => ⟨S8x5x4, .f32⟩
  | 38 => ⟨S8x5x4, .f32⟩
  | 39 => ⟨S8x5x1, .f32⟩
  | 40 => ⟨S8x5, .f32⟩
  | 41 => ⟨S8x5x1, .f32⟩
  | 42 => ⟨S8x5, .f32⟩
  | 43 => ⟨S8x5, .f32⟩
  | 44 => ⟨S8x5x1, .f32⟩
  | 45 => ⟨S8x5, .f32⟩
  | 46 => ⟨S8x5x1, .f32⟩
  | 47 => ⟨S8x5, .f32⟩
  | 48 => ⟨S8x5, .f32⟩
  | 49 => ⟨S8x5x1, .f32⟩
  | 50 => ⟨S8x5, .f32⟩
  | 51 => ⟨S_, .f32⟩
  | 52 => ⟨S8x5, .f32⟩
  | 53 => ⟨S8x5, .f32⟩
  | 54 => ⟨S8x5, .f32⟩
  | 55 => ⟨S8x5x1, .f32⟩
  | 56 => ⟨S8x5, .f32⟩
  | 57 => ⟨S_, .f32⟩
  | 58 => ⟨S8x5, .f32⟩
  | 59 => ⟨S8x5, .f32⟩
  | 60 => ⟨S8x5, .f32⟩
  | 61 => ⟨S8x5x1, .f32⟩
  | 62 => ⟨S8x5, .f32⟩
  | 63 => ⟨S_, .f32⟩
  | 64 => ⟨S8x5, .f32⟩
  | 65 => ⟨S8x5, .f32⟩
  | 66 => ⟨S8x5, .f32⟩
  | 67 => ⟨S8x5x1, .f32⟩
  | 68 => ⟨S8x5, .f32⟩
  | 69 => ⟨S_, .f32⟩
  | 70 => ⟨S8x5, .f32⟩
  | 71 => ⟨S8x5, .f32⟩
  | 72 => ⟨S8x5, .f32⟩
  | 73 => ⟨S8x5x1, .f32⟩
  | 74 => ⟨S8x5x1, .f32⟩
  | 75 => ⟨S8x5x1, .f32⟩
  | 76 => ⟨S8x5x1, .f32⟩
  | 77 => ⟨S8x5x4, .f32⟩
  | 78 => ⟨S_, .i32⟩
  | 79 => ⟨S5456, .i32⟩
  | 80 => ⟨S5456, .i1⟩
  | 81 => ⟨S_, .i32⟩
  | 82 => ⟨S5456, .i32⟩
  | 83 => ⟨S5456, .i32⟩
  | 84 => ⟨S5456, .i32⟩
  | 85 => ⟨S5456x1, .i32⟩
  | 86 => ⟨S8x5456x4, .f32⟩
  | 87 => ⟨S8x5x1, .f32⟩
  | 88 => ⟨S8x5, .f32⟩
  | 89 => ⟨S_, .f32⟩
  | 90 => ⟨S8x5, .f32⟩
  | 91 => ⟨S8x5, .f32⟩
  | 92 => ⟨S8x5, .f32⟩
  | 93 => ⟨S8x5x1, .f32⟩
  | 94 => ⟨S8x5, .f32⟩
  | 95 => ⟨S_, .f32⟩
  | 96 => ⟨S8x5, .f32⟩
  | 97 => ⟨S8x5, .f32⟩
  | 98 => ⟨S8x5, .f32⟩
  | 99 => ⟨S8x5x1, .f32⟩
  | 100 => ⟨S8x5, .f32⟩
  | 101 => ⟨S_, .f32⟩
  | 102 => ⟨S8x5, .f32⟩
  | 103 => ⟨S8x5, .f32⟩
  | 104 => ⟨S8x5, .f32⟩
  | 105 => ⟨S8x5x1, .f32⟩
  | 106 => ⟨S8x5, .f32⟩
  | 107 => ⟨S_, .f32⟩
  | 108 => ⟨S8x5, .f32⟩
  | 109 => ⟨S8x5, .f32⟩
  | 110 => ⟨S8x5, .f32⟩
  | 111 => ⟨S8x5x1, .f32⟩
  | 112 => ⟨S8x5x1, .f32⟩
  | 113 => ⟨S8x5x1, .f32⟩
  | 114 => ⟨S8x5x1, .f32⟩
  | 115 => ⟨S8x5x4, .f32⟩
  | 116 => ⟨S_, .i32⟩
  | 117 => ⟨S5456, .i32⟩
  | 118 => ⟨S5456, .i1⟩
  | 119 => ⟨S_, .i32⟩
  | 120 => ⟨S5456, .i32⟩
  | 121 => ⟨S5456, .i32⟩
  | 122 => ⟨S5456, .i32⟩
  | 123 => ⟨S5456x1, .i32⟩
  | 124 => ⟨S8x5456x4, .f32⟩
  | 125 => ⟨S1x5456, .i32⟩
  | 126 => ⟨S8x5456x1, .f32⟩
  | 127 => ⟨S8x5456, .f32⟩
  | _ => ⟨S2x5456x80, .f32⟩

abbrev hbmTy0_1 (i : Nat) : BufTy := match i % 128 with
  | 0 => ⟨S_, .f32⟩
  | 1 => ⟨S8x5456, .f32⟩
  | 2 => ⟨S8x5456, .f32⟩
  | 3 => ⟨S8x5456, .i32⟩
  | 4 => ⟨S8x5456, .i32⟩
  | 5 => ⟨S8x5456, .i1⟩
  | 6 => ⟨S1x5456, .i32⟩
  | 7 => ⟨S8x5456x1, .f32⟩
  | 8 => ⟨S8x5456, .f32⟩
  | 9 => ⟨S8x5456, .i32⟩
  | 10 => ⟨S8x5456, .i32⟩
  | 11 => ⟨S8x5456, .i1⟩
  | 12 => ⟨S8x5456, .i1⟩
  | 13 => ⟨S1x5456, .i32⟩
  | 14 => ⟨S8x5456x1, .f32⟩
  | 15 => ⟨S8x5456, .f32⟩
  | 16 => ⟨S_, .f32⟩
  | 17 => ⟨S8x5456, .f32⟩
  | 18 => ⟨S8x5456, .f32⟩
  | 19 => ⟨S8x5456, .i32⟩
  | 20 => ⟨S8x5456, .i32⟩
  | 21 => ⟨S8x5456, .i1⟩
  | 22 => ⟨S8x5456, .i1⟩
  | 23 => ⟨S1x5456, .i32⟩
  | 24 => ⟨S8x5456x1, .f32⟩
  | 25 => ⟨S8x5456, .f32⟩
  | 26 => ⟨S8x5456, .i32⟩
  | 27 => ⟨S8x5456, .i32⟩
  | 28 => ⟨S8x5456, .i1⟩
  | 29 => ⟨S8x5456, .i1⟩
  | 30 => ⟨S8x1, .i1⟩
  | 31 => ⟨S8x5456, .i1⟩
  | 32 => ⟨S8x5456, .i1⟩
  | 33 => ⟨S1x5456, .i32⟩
  | 34 => ⟨S8x5456x1, .f32⟩
  | 35 => ⟨S8x5456, .f32⟩
  | 36 => ⟨S8x5456, .i32⟩
  | 37 => ⟨S8x5456, .i32⟩
  | 38 => ⟨S8x5456, .i1⟩
  | 39 => ⟨S1x5456, .i32⟩
  | 40 => ⟨S8x5456x1, .f32⟩
  | 41 => ⟨S8x5456, .f32⟩
  | 42 => ⟨S_, .f32⟩
  | 43 => ⟨S8x5456, .f32⟩
  | 44 => ⟨S8x5456, .f32⟩
  | 45 => ⟨S8x5456, .i32⟩
  | 46 => ⟨S8x5456, .i32⟩
  | 47 => ⟨S8x5456, .i1⟩
  | 48 => ⟨S8x5456, .i1⟩
  | 49 => ⟨S1x5456, .i32⟩
  | 50 => ⟨S8x5456x1, .f32⟩
  | 51 => ⟨S8x5456, .f32⟩
  | 52 => ⟨S8x5456, .i32⟩
  | 53 => ⟨S8x5456, .i32⟩
  | 54 => ⟨S8x5456, .i1⟩
  | 55 => ⟨S8x5456, .i1⟩
  | 56 => ⟨S1x5456, .i32⟩
  | 57 => ⟨S8x5456x1, .f32⟩
  | 58 => ⟨S8x5456, .f32⟩
  | 59 => ⟨S_, .f32⟩
  | 60 => ⟨S8x5456, .f32⟩
  | 61 => ⟨S8x5456, .f32⟩
  | 62 => ⟨S8x5456, .i32⟩
  | 63 => ⟨S8x5456, .i32⟩
  | 64 => ⟨S8x5456, .i1⟩
  | 65 => ⟨S8x5456, .i1⟩
  | 66 => ⟨S8x1, .i1⟩
  | 67 => ⟨S8x5456, .i1⟩
  | 68 => ⟨S8x5456, .i1⟩
  | 69 => ⟨S8x1, .f32⟩
  | 70 => ⟨S8, .f32⟩
  | 71 => ⟨S8, .i32⟩
  | 72 => ⟨S8x1, .i32⟩
  | 73 => ⟨S1x80, .i32⟩
  | 74 => ⟨S8x80, .i32⟩
  | 75 => ⟨S8x80, .i32⟩
  | 76 => ⟨S8x80, .i1⟩
  | 77 => ⟨S8x80, .f32⟩
  | 78 => ⟨S8x5456, .f32⟩
  | 79 => ⟨S5456x80, .f32⟩
  | 80 => ⟨S_, .f32⟩
  | 81 => ⟨S5456x80, .f32⟩
  | 82 => ⟨S5456x80, .i1⟩
  | 83 => ⟨S8x5456, .f32⟩
  | 84 => ⟨S5456x80, .f32⟩
  | 85 => ⟨S_, .f32⟩
  | 86 => ⟨S5456x80, .f32⟩
  | 87 => ⟨S5456x80, .i1⟩
  | 88 => ⟨S_, .f32⟩
  | 89 => ⟨S_, .f32⟩
  | 90 => ⟨S5456x80, .f32⟩
  | 91 => ⟨S5456x80, .f32⟩
  | 92 => ⟨S5456x80, .f32⟩
  | 93 => ⟨S_, .f32⟩
  | 94 => ⟨S5456x80, .f32⟩
  | 95 => ⟨S5456x80, .f32⟩
  | 96 => ⟨S_, .f32⟩
  | 97 => ⟨S5456x80, .f32⟩
  | 98 => ⟨S5456x80, .i1⟩
  | 99 => ⟨S_, .f32⟩
  | 100 => ⟨S_, .f32⟩
  | 101 => ⟨S5456x80, .f32⟩
  | 102 => ⟨S5456x80, .f32⟩
  | 103 => ⟨S5456x80, .f32⟩
  | 104 => ⟨S_, .f32⟩
  | 105 => ⟨S5456x80, .f32⟩
  | 106 => ⟨S5456x80, .i1⟩
  | 107 => ⟨S_, .f32⟩
  | 108 => ⟨S5456x80, .f32⟩
  | 109 => ⟨S5456x80, .f32⟩
  | 110 => ⟨S5456x80, .f32⟩
  | 111 => ⟨S_, .f32⟩
  | 112 => ⟨S5456x80, .f32⟩
  | 113 => ⟨S5456x80, .f32⟩
  | 114 => ⟨S5456x80, .f32⟩
  | 115 => ⟨S5456x80, .f32⟩
  | 116 => ⟨S5456x80, .f32⟩
  | 117 => ⟨S5456x80, .f32⟩
  | 118 => ⟨S5456x80, .f32⟩
  | 119 => ⟨S_, .f32⟩
  | 120 => ⟨S5456x80, .f32⟩
  | 121 => ⟨S5456x80, .f32⟩
  | 122 => ⟨S_, .f32⟩
  | 123 => ⟨S5456x80, .f32⟩
  | 124 => ⟨S5456x80, .f32⟩
  | 125 => ⟨S5456x80, .f32⟩
  | 126 => ⟨S5456x80, .f32⟩
  | 127 => ⟨S5456x80, .f32⟩
  | _ => ⟨S2x5456x80, .f32⟩

abbrev hbmTy0_2 (i : Nat) : BufTy := match i % 128 with
  | 0 => ⟨S5456x80, .f32⟩
  | 1 => ⟨S5456x80, .f32⟩
  | 2 => ⟨S_, .f32⟩
  | 3 => ⟨S5456x80, .f32⟩
  | 4 => ⟨S5456x80, .i1⟩
  | 5 => ⟨S5456x80, .f32⟩
  | 6 => ⟨S_, .f32⟩
  | 7 => ⟨S_, .f32⟩
  | 8 => ⟨S5456x80, .f32⟩
  | 9 => ⟨S5456x80, .f32⟩
  | 10 => ⟨S_, .f32⟩
  | 11 => ⟨S5456x80, .f32⟩
  | 12 => ⟨S5456x80, .i1⟩
  | 13 => ⟨S5456x80, .i32⟩
  | 14 => ⟨S_, .i32⟩
  | 15 => ⟨S_, .i32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1x5456x80, .f32⟩
  | 23 => ⟨S5456x80, .f32⟩
  | 24 => ⟨S_, .f32⟩
  | 25 => ⟨S_, .f32⟩
  | 26 => ⟨S_, .f32⟩
  | 27 => ⟨S5456x80, .f32⟩
  | 28 => ⟨S5456x80, .f32⟩
  | 29 => ⟨S_, .f32⟩
  | 30 => ⟨S5456x80, .f32⟩
  | 31 => ⟨S5456x80, .f32⟩
  | 32 => ⟨S1x8x5, .f32⟩
  | 33 => ⟨S8x5, .f32⟩
  | 34 => ⟨S8x1, .f32⟩
  | 35 => ⟨S8, .f32⟩
  | 36 => ⟨S_, .f32⟩
  | 37 => ⟨S8, .f32⟩
  | 38 => ⟨S8, .i1⟩
  | 39 => ⟨S8x4, .f32⟩
  | 40 => ⟨S8x1x4, .f32⟩
  | 41 => ⟨S1x5x1, .f32⟩
  | 42 => ⟨S8x5x4, .f32⟩
  | 43 => ⟨S8x5x4, .f32⟩
  | 44 => ⟨S8x5x4, .f32⟩
  | 45 => ⟨S_, .f32⟩
  | 46 => ⟨S8x5x4, .f32⟩
  | 47 => ⟨S8x5x4, .f32⟩
  | 48 => ⟨S1x5x1, .f32⟩
  | 49 => ⟨S8x5x4, .f32⟩
  | 50 => ⟨S8x5x4, .f32⟩
  | 51 => ⟨S8x5x4, .f32⟩
  | 52 => ⟨S8x5x1, .f32⟩
  | 53 => ⟨S8x5, .f32⟩
  | 54 => ⟨S8x5x1, .f32⟩
  | 55 => ⟨S8x5, .f32⟩
  | 56 => ⟨S8x5, .f32⟩
  | 57 => ⟨S8x5x1, .f32⟩
  | 58 => ⟨S8x5, .f32⟩
  | 59 => ⟨S8x5x1, .f32⟩
  | 60 => ⟨S8x5, .f32⟩
  | 61 => ⟨S8x5, .f32⟩
  | 62 => ⟨S8x5x1, .f32⟩
  | 63 => ⟨S8x5, .f32⟩
  | 64 => ⟨S_, .f32⟩
  | 65 => ⟨S8x5, .f32⟩
  | 66 => ⟨S8x5, .f32⟩
  | 67 => ⟨S8x5, .f32⟩
  | 68 => ⟨S8x5x1, .f32⟩
  | 69 => ⟨S8x5, .f32⟩
  | 70 => ⟨S_, .f32⟩
  | 71 => ⟨S8x5, .f32⟩
  | 72 => ⟨S8x5, .f32⟩
  | 73 => ⟨S8x5, .f32⟩
  | 74 => ⟨S8x5x1, .f32⟩
  | 75 => ⟨S8x5, .f32⟩
  | 76 => ⟨S_, .f32⟩
  | 77 => ⟨S8x5, .f32⟩
  | 78 => ⟨S8x5, .f32⟩
  | 79 => ⟨S8x5, .f32⟩
  | 80 => ⟨S8x5x1, .f32⟩
  | 81 => ⟨S8x5, .f32⟩
  | 82 => ⟨S_, .f32⟩
  | 83 => ⟨S8x5, .f32⟩
  | 84 => ⟨S8x5, .f32⟩
  | 85 => ⟨S8x5, .f32⟩
  | 86 => ⟨S8x5x1, .f32⟩
  | 87 => ⟨S8x5x1, .f32⟩
  | 88 => ⟨S8x5x1, .f32⟩
  | 89 => ⟨S8x5x1, .f32⟩
  | 90 => ⟨S8x5x4, .f32⟩
  | 91 => ⟨S_, .i32⟩
  | 92 => ⟨S5456, .i32⟩
  | 93 => ⟨S5456, .i1⟩
  | 94 => ⟨S_, .i32⟩
  | 95 => ⟨S5456, .i32⟩
  | 96 => ⟨S5456, .i32⟩
  | 97 => ⟨S5456, .i32⟩
  | 98 => ⟨S5456x1, .i32⟩
  | 99 => ⟨S8x5456x4, .f32⟩
  | 100 => ⟨S8x5x1, .f32⟩
  | 101 => ⟨S8x5, .f32⟩
  | 102 => ⟨S_, .f32⟩
  | 103 => ⟨S8x5, .f32⟩
  | 104 => ⟨S8x5, .f32⟩
  | 105 => ⟨S8x5, .f32⟩
  | 106 => ⟨S8x5x1, .f32⟩
  | 107 => ⟨S8x5, .f32⟩
  | 108 => ⟨S_, .f32⟩
  | 109 => ⟨S8x5, .f32⟩
  | 110 => ⟨S8x5, .f32⟩
  | 111 => ⟨S8x5, .f32⟩
  | 112 => ⟨S8x5x1, .f32⟩
  | 113 => ⟨S8x5, .f32⟩
  | 114 => ⟨S_, .f32⟩
  | 115 => ⟨S8x5, .f32⟩
  | 116 => ⟨S8x5, .f32⟩
  | 117 => ⟨S8x5, .f32⟩
  | 118 => ⟨S8x5x1, .f32⟩
  | 119 => ⟨S8x5, .f32⟩
  | 120 => ⟨S_, .f32⟩
  | 121 => ⟨S8x5, .f32⟩
  | 122 => ⟨S8x5, .f32⟩
  | 123 => ⟨S8x5, .f32⟩
  | 124 => ⟨S8x5x1, .f32⟩
  | 125 => ⟨S8x5x1, .f32⟩
  | 126 => ⟨S8x5x1, .f32⟩
  | 127 => ⟨S8x5x1, .f32⟩
  | _ => ⟨S2x5456x80, .f32⟩

abbrev hbmTy0_3 (i : Nat) : BufTy := match i % 128 with
  | 0 => ⟨S8x5x4, .f32⟩
  | 1 => ⟨S_, .i32⟩
  | 2 => ⟨S5456, .i32⟩
  | 3 => ⟨S5456, .i1⟩
  | 4 => ⟨S_, .i32⟩
  | 5 => ⟨S5456, .i32⟩
  | 6 => ⟨S5456, .i32⟩
  | 7 => ⟨S5456, .i32⟩
  | 8 => ⟨S5456x1, .i32⟩
  | 9 => ⟨S8x5456x4, .f32⟩
  | 10 => ⟨S1x5456, .i32⟩
  | 11 => ⟨S8x5456x1, .f32⟩
  | 12 => ⟨S8x5456, .f32⟩
  | 13 => ⟨S_, .f32⟩
  | 14 => ⟨S8x5456, .f32⟩
  | 15 => ⟨S8x5456, .f32⟩
  | 16 => ⟨S8x5456, .i32⟩
  | 17 => ⟨S8x5456, .i32⟩
  | 18 => ⟨S8x5456, .i1⟩
  | 19 => ⟨S1x5456, .i32⟩
  | 20 => ⟨S8x5456x1, .f32⟩
  | 21 => ⟨S8x5456, .f32⟩
  | 22 => ⟨S8x5456, .i32⟩
  | 23 => ⟨S8x5456, .i32⟩
  | 24 => ⟨S8x5456, .i1⟩
  | 25 => ⟨S8x5456, .i1⟩
  | 26 => ⟨S1x5456, .i32⟩
  | 27 => ⟨S8x5456x1, .f32⟩
  | 28 => ⟨S8x5456, .f32⟩
  | 29 => ⟨S_, .f32⟩
  | 30 => ⟨S8x5456, .f32⟩
  | 31 => ⟨S8x5456, .f32⟩
  | 32 => ⟨S8x5456, .i32⟩
  | 33 => ⟨S8x5456, .i32⟩
  | 34 => ⟨S8x5456, .i1⟩
  | 35 => ⟨S8x5456, .i1⟩
  | 36 => ⟨S1x5456, .i32⟩
  | 37 => ⟨S8x5456x1, .f32⟩
  | 38 => ⟨S8x5456, .f32⟩
  | 39 => ⟨S8x5456, .i32⟩
  | 40 => ⟨S8x5456, .i32⟩
  | 41 => ⟨S8x5456, .i1⟩
  | 42 => ⟨S8x5456, .i1⟩
  | 43 => ⟨S8x1, .i1⟩
  | 44 => ⟨S8x5456, .i1⟩
  | 45 => ⟨S8x5456, .i1⟩
  | 46 => ⟨S1x5456, .i32⟩
  | 47 => ⟨S8x5456x1, .f32⟩
  | 48 => ⟨S8x5456, .f32⟩
  | 49 => ⟨S8x5456, .i32⟩
  | 50 => ⟨S8x5456, .i32⟩
  | 51 => ⟨S8x5456, .i1⟩
  | 52 => ⟨S1x5456, .i32⟩
  | 53 => ⟨S8x5456x1, .f32⟩
  | 54 => ⟨S8x5456, .f32⟩
  | 55 => ⟨S_, .f32⟩
  | 56 => ⟨S8x5456, .f32⟩
  | 57 => ⟨S8x5456, .f32⟩
  | 58 => ⟨S8x5456, .i32⟩
  | 59 => ⟨S8x5456, .i32⟩
  | 60 => ⟨S8x5456, .i1⟩
  | 61 => ⟨S8x5456, .i1⟩
  | 62 => ⟨S1x5456, .i32⟩
  | 63 => ⟨S8x5456x1, .f32⟩
  | 64 => ⟨S8x5456, .f32⟩
  | 65 => ⟨S8x5456, .i32⟩
  | 66 => ⟨S8x5456, .i32⟩
  | 67 => ⟨S8x5456, .i1⟩
  | 68 => ⟨S8x5456, .i1⟩
  | 69 => ⟨S1x5456, .i32⟩
  | 70 => ⟨S8x5456x1, .f32⟩
  | 71 => ⟨S8x5456, .f32⟩
  | 72 => ⟨S_, .f32⟩
  | 73 => ⟨S8x5456, .f32⟩
  | 74 => ⟨S8x5456, .f32⟩
  | 75 => ⟨S8x5456, .i32⟩
  | 76 => ⟨S8x5456, .i32⟩
  | 77 => ⟨S8x5456, .i1⟩
  | 78 => ⟨S8x5456, .i1⟩
  | 79 => ⟨S8x1, .i1⟩
  | 80 => ⟨S8x5456, .i1⟩
  | 81 => ⟨S8x5456, .i1⟩
  | 82 => ⟨S8x1, .f32⟩
  | 83 => ⟨S8, .f32⟩
  | 84 => ⟨S8, .i32⟩
  | 85 => ⟨S8x1, .i32⟩
  | 86 => ⟨S1x80, .i32⟩
  | 87 => ⟨S8x80, .i32⟩
  | 88 => ⟨S8x80, .i32⟩
  | 89 => ⟨S8x80, .i1⟩
  | 90 => ⟨S8x80, .f32⟩
  | 91 => ⟨S8x5456, .f32⟩
  | 92 => ⟨S5456x80, .f32⟩
  | 93 => ⟨S_, .f32⟩
  | 94 => ⟨S5456x80, .f32⟩
  | 95 => ⟨S5456x80, .i1⟩
  | 96 => ⟨S8x5456, .f32⟩
  | 97 => ⟨S5456x80, .f32⟩
  | 98 => ⟨S_, .f32⟩
  | 99 => ⟨S5456x80, .f32⟩
  | 100 => ⟨S5456x80, .i1⟩
  | 101 => ⟨S_, .f32⟩
  | 102 => ⟨S_, .f32⟩
  | 103 => ⟨S5456x80, .f32⟩
  | 104 => ⟨S5456x80, .f32⟩
  | 105 => ⟨S5456x80, .f32⟩
  | 106 => ⟨S_, .f32⟩
  | 107 => ⟨S5456x80, .f32⟩
  | 108 => ⟨S5456x80, .f32⟩
  | 109 => ⟨S_, .f32⟩
  | 110 => ⟨S5456x80, .f32⟩
  | 111 => ⟨S5456x80, .i1⟩
  | 112 => ⟨S_, .f32⟩
  | 113 => ⟨S_, .f32⟩
  | 114 => ⟨S5456x80, .f32⟩
  | 115 => ⟨S5456x80, .f32⟩
  | 116 => ⟨S5456x80, .f32⟩
  | 117 => ⟨S_, .f32⟩
  | 118 => ⟨S5456x80, .f32⟩
  | 119 => ⟨S5456x80, .i1⟩
  | 120 => ⟨S_, .f32⟩
  | 121 => ⟨S5456x80, .f32⟩
  | 122 => ⟨S5456x80, .f32⟩
  | 123 => ⟨S5456x80, .f32⟩
  | 124 => ⟨S_, .f32⟩
  | 125 => ⟨S5456x80, .f32⟩
  | 126 => ⟨S5456x80, .f32⟩
  | 127 => ⟨S5456x80, .f32⟩
  | _ => ⟨S2x5456x80, .f32⟩

abbrev hbmTy0_4 (i : Nat) : BufTy := match i % 128 with
  | 0 => ⟨S5456x80, .f32⟩
  | 1 => ⟨S5456x80, .f32⟩
  | 2 => ⟨S5456x80, .f32⟩
  | 3 => ⟨S5456x80, .f32⟩
  | 4 => ⟨S_, .f32⟩
  | 5 => ⟨S5456x80, .f32⟩
  | 6 => ⟨S5456x80, .f32⟩
  | 7 => ⟨S_, .f32⟩
  | 8 => ⟨S5456x80, .f32⟩
  | 9 => ⟨S5456x80, .f32⟩
  | 10 => ⟨S5456x80, .f32⟩
  | 11 => ⟨S5456x80, .f32⟩
  | 12 => ⟨S5456x80, .f32⟩
  | 13 => ⟨S5456x80, .f32⟩
  | 14 => ⟨S5456x80, .f32⟩
  | 15 => ⟨S_, .f32⟩
  | 16 => ⟨S5456x80, .f32⟩
  | 17 => ⟨S5456x80, .i1⟩
  | 18 => ⟨S5456x80, .f32⟩
  | 19 => ⟨S_, .f32⟩
  | 20 => ⟨S_, .f32⟩
  | 21 => ⟨S5456x80, .f32⟩
  | 22 => ⟨S5456x80, .f32⟩
  | 23 => ⟨S_, .f32⟩
  | 24 => ⟨S5456x80, .f32⟩
  | 25 => ⟨S5456x80, .i1⟩
  | 26 => ⟨S5456x80, .i32⟩
  | 27 => ⟨S_, .i32⟩
  | 28 => ⟨S_, .i32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1, .f32⟩
  | 36 => ⟨S1, .f32⟩
  | 37 => ⟨S2, .f32⟩
  | 38 => ⟨S_, .f32⟩
  | 39 => ⟨S_, .f32⟩
  | 40 => ⟨S_, .f32⟩
  | 41 => ⟨S_, .f32⟩
  | _ => ⟨S2x5456x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x5456x80, .f32⟩

abbrev bufTy : (tb : Table) → Fin (tcTables nBuf tb) → BufTy
  | .hbm, ⟨i, _⟩ => hbmTy i
  | _, _ => ⟨S2x5456x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_14 : Ref sig .tc := ⟨.hbm, 116, rfl⟩
abbrev main_v88 : Ref sig .tc := ⟨.hbm, 117, rfl⟩
abbrev main_v89 : Ref sig .tc := ⟨.hbm, 118, rfl⟩
abbrev main_c_15 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_16 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_17 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_18 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_19 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_call1_v0 : Ref sig .tc := ⟨.hbm, 200, rfl⟩
abbrev main_call1_v1 : Ref sig .tc := ⟨.hbm, 201, rfl⟩
abbrev main_call1_v2 : Ref sig .tc := ⟨.hbm, 202, rfl⟩
abbrev main_call1_v3 : Ref sig .tc := ⟨.hbm, 203, rfl⟩
abbrev main_call1_v4 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_20 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_21 : Ref sig .tc := ⟨.hbm, 213, rfl⟩
abbrev main_v173 : Ref sig .tc := ⟨.hbm, 214, rfl⟩
abbrev main_v174 : Ref sig .tc := ⟨.hbm, 215, rfl⟩
abbrev main_cst_22 : Ref sig .tc := ⟨.hbm, 216, rfl⟩
abbrev main_cst_23 : Ref sig .tc := ⟨.hbm, 217, rfl⟩
abbrev main_call2_v0 : Ref sig .tc := ⟨.hbm, 218, rfl⟩
abbrev main_call2_v1 : Ref sig .tc := ⟨.hbm, 219, rfl⟩
abbrev main_v175 : Ref sig .tc := ⟨.hbm, 220, rfl⟩
abbrev main_cst_24 : Ref sig .tc := ⟨.hbm, 221, rfl⟩
abbrev main_call3_v0 : Ref sig .tc := ⟨.hbm, 222, rfl⟩
abbrev main_v176 : Ref sig .tc := ⟨.hbm, 223, rfl⟩
abbrev main_cst_25 : Ref sig .tc := ⟨.hbm, 224, rfl⟩
abbrev main_v177 : Ref sig .tc := ⟨.hbm, 225, rfl⟩
abbrev main_v178 : Ref sig .tc := ⟨.hbm, 226, rfl⟩
abbrev main_cst_26 : Ref sig .tc := ⟨.hbm, 227, rfl⟩
abbrev main_cst_27 : Ref sig .tc := ⟨.hbm, 228, rfl⟩
abbrev main_call4_v0 : Ref sig .tc := ⟨.hbm, 229, rfl⟩
abbrev main_call4_v1 : Ref sig .tc := ⟨.hbm, 230, rfl⟩
abbrev main_v179 : Ref sig .tc := ⟨.hbm, 231, rfl⟩
abbrev main_cst_28 : Ref sig .tc := ⟨.hbm, 232, rfl⟩
abbrev main_v180 : Ref sig .tc := ⟨.hbm, 233, rfl⟩
abbrev main_v181 : Ref sig .tc := ⟨.hbm, 234, rfl⟩
abbrev main_cst_29 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_cst_30 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_31 : Ref sig .tc := ⟨.hbm, 247, rfl⟩
abbrev main_v192 : Ref sig .tc := ⟨.hbm, 248, rfl⟩
abbrev main_v193 : Ref sig .tc := ⟨.hbm, 249, rfl⟩
abbrev main_cst_32 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_cst_33 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_34 : Ref sig .tc := ⟨.hbm, 262, rfl⟩
abbrev main_call6_v0 : Ref sig .tc := ⟨.hbm, 263, rfl⟩
abbrev main_call6_v1 : Ref sig .tc := ⟨.hbm, 264, rfl⟩
abbrev main_v204 : Ref sig .tc := ⟨.hbm, 265, rfl⟩
abbrev main_cst_35 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_c_36 : Ref sig .tc := ⟨.hbm, 270, rfl⟩
abbrev main_v208 : Ref sig .tc := ⟨.hbm, 271, rfl⟩
abbrev main_v209 : Ref sig .tc := ⟨.hbm, 272, rfl⟩
abbrev main_cst_37 : Ref sig .tc := ⟨.hbm, 273, rfl⟩
abbrev main_v210 : Ref sig .tc := ⟨.hbm, 274, rfl⟩
abbrev main_cst_38 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_39 : Ref sig .tc := ⟨.hbm, 280, rfl⟩
abbrev main_cst_40 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_41 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_cst_42 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_cst_43 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_cst_44 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_cst_45 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_cst_46 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_c_47 : Ref sig .tc := ⟨.hbm, 347, rfl⟩
abbrev main_v269 : Ref sig .tc := ⟨.hbm, 348, rfl⟩
abbrev main_v270 : Ref sig .tc := ⟨.hbm, 349, rfl⟩
abbrev main_c_48 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_cst_49 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_cst_50 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_cst_51 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_cst_52 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_c_53 : Ref sig .tc := ⟨.hbm, 385, rfl⟩
abbrev main_v301 : Ref sig .tc := ⟨.hbm, 386, rfl⟩
abbrev main_v302 : Ref sig .tc := ⟨.hbm, 387, rfl⟩
abbrev main_c_54 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_cst_55 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_cst_56 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_v345 : Ref sig .tc := ⟨.hbm, 433, rfl⟩
abbrev main_v346 : Ref sig .tc := ⟨.hbm, 434, rfl⟩
abbrev main_v347 : Ref sig .tc := ⟨.hbm, 435, rfl⟩
abbrev main_v348 : Ref sig .tc := ⟨.hbm, 436, rfl⟩
abbrev main_v349 : Ref sig .tc := ⟨.hbm, 437, rfl⟩
abbrev main_v350 : Ref sig .tc := ⟨.hbm, 438, rfl⟩
abbrev main_cst_57 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_cst_58 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_call8_v0 : Ref sig .tc := ⟨.hbm, 469, rfl⟩
abbrev main_call8_v1 : Ref sig .tc := ⟨.hbm, 470, rfl⟩
abbrev main_call8_v2 : Ref sig .tc := ⟨.hbm, 471, rfl⟩
abbrev main_call8_v3 : Ref sig .tc := ⟨.hbm, 472, rfl⟩
abbrev main_call8_v4 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_cst_59 : Ref sig .tc := ⟨.hbm, 477, rfl⟩
abbrev main_v382 : Ref sig .tc := ⟨.hbm, 478, rfl⟩
abbrev main_v383 : Ref sig .tc := ⟨.hbm, 479, rfl⟩
abbrev main_v384 : Ref sig .tc := ⟨.hbm, 480, rfl⟩
abbrev main_v385 : Ref sig .tc := ⟨.hbm, 481, rfl⟩
abbrev main_cst_60 : Ref sig .tc := ⟨.hbm, 482, rfl⟩
abbrev main_v386 : Ref sig .tc := ⟨.hbm, 483, rfl⟩
abbrev main_v387 : Ref sig .tc := ⟨.hbm, 484, rfl⟩
abbrev main_cst_61 : Ref sig .tc := ⟨.hbm, 485, rfl⟩
abbrev main_cst_62 : Ref sig .tc := ⟨.hbm, 486, rfl⟩
abbrev main_call9_v0 : Ref sig .tc := ⟨.hbm, 487, rfl⟩
abbrev main_call9_v1 : Ref sig .tc := ⟨.hbm, 488, rfl⟩
abbrev main_v388 : Ref sig .tc := ⟨.hbm, 489, rfl⟩
abbrev main_cst_63 : Ref sig .tc := ⟨.hbm, 490, rfl⟩
abbrev main_call10_v0 : Ref sig .tc := ⟨.hbm, 491, rfl⟩
abbrev main_v389 : Ref sig .tc := ⟨.hbm, 492, rfl⟩
abbrev main_cst_64 : Ref sig .tc := ⟨.hbm, 493, rfl⟩
abbrev main_v390 : Ref sig .tc := ⟨.hbm, 494, rfl⟩
abbrev main_v391 : Ref sig .tc := ⟨.hbm, 495, rfl⟩
abbrev main_cst_65 : Ref sig .tc := ⟨.hbm, 496, rfl⟩
abbrev main_cst_66 : Ref sig .tc := ⟨.hbm, 497, rfl⟩
abbrev main_call11_v0 : Ref sig .tc := ⟨.hbm, 498, rfl⟩
abbrev main_call11_v1 : Ref sig .tc := ⟨.hbm, 499, rfl⟩
abbrev main_v392 : Ref sig .tc := ⟨.hbm, 500, rfl⟩
abbrev main_cst_67 : Ref sig .tc := ⟨.hbm, 501, rfl⟩
abbrev main_v393 : Ref sig .tc := ⟨.hbm, 502, rfl⟩
abbrev main_v394 : Ref sig .tc := ⟨.hbm, 503, rfl⟩
abbrev main_cst_68 : Ref sig .tc := ⟨.hbm, 504, rfl⟩
abbrev main_v395 : Ref sig .tc := ⟨.hbm, 505, rfl⟩
abbrev main_v396 : Ref sig .tc := ⟨.hbm, 506, rfl⟩
abbrev main_v397 : Ref sig .tc := ⟨.hbm, 507, rfl⟩
abbrev main_cst_69 : Ref sig .tc := ⟨.hbm, 508, rfl⟩
abbrev main_v398 : Ref sig .tc := ⟨.hbm, 509, rfl⟩
abbrev main_v399 : Ref sig .tc := ⟨.hbm, 510, rfl⟩
abbrev main_v400 : Ref sig .tc := ⟨.hbm, 511, rfl⟩
abbrev main_v401 : Ref sig .tc := ⟨.hbm, 512, rfl⟩
abbrev main_v402 : Ref sig .tc := ⟨.hbm, 513, rfl⟩
abbrev main_v403 : Ref sig .tc := ⟨.hbm, 514, rfl⟩
abbrev main_v404 : Ref sig .tc := ⟨.hbm, 515, rfl⟩
abbrev main_cst_70 : Ref sig .tc := ⟨.hbm, 516, rfl⟩
abbrev main_v405 : Ref sig .tc := ⟨.hbm, 517, rfl⟩
abbrev main_v406 : Ref sig .tc := ⟨.hbm, 518, rfl⟩
abbrev main_cst_71 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_v411 : Ref sig .tc := ⟨.hbm, 524, rfl⟩
abbrev main_v412 : Ref sig .tc := ⟨.hbm, 525, rfl⟩
abbrev main_v413 : Ref sig .tc := ⟨.hbm, 526, rfl⟩
abbrev main_cst_72 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_cst_73 : Ref sig .tc := ⟨.hbm, 531, rfl⟩
abbrev main_call13_v0 : Ref sig .tc := ⟨.hbm, 532, rfl⟩
abbrev main_call13_v1 : Ref sig .tc := ⟨.hbm, 533, rfl⟩
abbrev main_v417 : Ref sig .tc := ⟨.hbm, 534, rfl⟩
abbrev main_cst_74 : Ref sig .tc := ⟨.hbm, 535, rfl⟩
abbrev main_v418 : Ref sig .tc := ⟨.hbm, 536, rfl⟩
abbrev main_v419 : Ref sig .tc := ⟨.hbm, 537, rfl⟩
abbrev main_v420 : Ref sig .tc := ⟨.hbm, 538, rfl⟩
abbrev main_c_75 : Ref sig .tc := ⟨.hbm, 539, rfl⟩
abbrev main_v421 : Ref sig .tc := ⟨.hbm, 540, rfl⟩
abbrev main_v422 : Ref sig .tc := ⟨.hbm, 541, rfl⟩
abbrev main_cst_76 : Ref sig .tc := ⟨.hbm, 542, rfl⟩
abbrev main_v423 : Ref sig .tc := ⟨.hbm, 543, rfl⟩
abbrev main_cst_77 : Ref sig .tc := ⟨.hbm, 544, rfl⟩
abbrev main_v424 : Ref sig .tc := ⟨.hbm, 545, rfl⟩
abbrev main_v425 : Ref sig .tc := ⟨.hbm, 546, rfl⟩
abbrev main_v426 : Ref sig .tc := ⟨.hbm, 547, rfl⟩
abbrev main_v427 : Ref sig .tc := ⟨.hbm, 548, rfl⟩
abbrev main_v428 : Ref sig .tc := ⟨.hbm, 549, rfl⟩
abbrev main_cst_78 : Ref sig .tc := ⟨.hbm, 550, rfl⟩
abbrev main_v429 : Ref sig .tc := ⟨.hbm, 551, rfl⟩
abbrev main_cst_79 : Ref sig .tc := ⟨.hbm, 552, rfl⟩
abbrev main_v430 : Ref sig .tc := ⟨.hbm, 553, rfl⟩

abbrev nD : Nat := 1
abbrev τ : Topo := Topo.v7x

variable {F : FTy → Type} [FloatOps F]
-- ==== Proof.Block.lean ====
/-
  What one grid point computes, as functions of the blocks that the point is given: the annotations `ann`, the
  classification scores `cls`, the five strides `str`, the coordinates of the 5456 points `xy` and the level of every
  point `lev` (one row per level, 1 where the point lies on the level). The chain of operations is the kernel's own,
  in its order; only the loads are spelt as the parts of the blocks that they read.
-/
module

public import proofs.«01_k».proof.Proof.Gen.KernelIdeal.Skeleton
public import Idealize.ShloMosaic.Lib.Pipeline.FrameBody

@[expose] public section

set_option maxRecDepth 16384

noncomputable section

namespace Cert.Proof.Block

open Cert.KernelIdeal Cert.KernelIdeal.Gen
open Idealize.ShloMosaic

variable {F : FTy → Type} [FloatOps F]
variable (ann : Vec F S1x8x5 .f32) (cls : Vec F S1x5456x80 .f32) (str : Vec F S1x5 .f32) (xy : Vec F S2x5456 .f32)
  (lev : Vec F S5x5456 .f32)

/-- The left edge of every annotation; then the top, right and bottom edges and the label. -/
def left : FVec F S8x1 .f32 := k0_pay6 (View.ld ann (Rect.unit ![0, 0, 0] S1x8x1.size inb_S1x8x5_S1x8x1_0_0_0))
def top : FVec F S8x1 .f32 := k0_pay7 (View.ld ann (Rect.unit ![0, 0, 1] S1x8x1.size inb_S1x8x5_S1x8x1_0_0_1))
def right : FVec F S8x1 .f32 := k0_pay8 (View.ld ann (Rect.unit ![0, 0, 2] S1x8x1.size inb_S1x8x5_S1x8x1_0_0_2))
def bottom : FVec F S8x1 .f32 := k0_pay9 (View.ld ann (Rect.unit ![0, 0, 3] S1x8x1.size inb_S1x8x5_S1x8x1_0_0_3))
/-- The labels as the annotations block holds them. -/
def labelCol : Vec F S1x8x1 .f32 := View.ld ann (Rect.unit ![0, 0, 4] S1x8x1.size inb_S1x8x5_S1x8x1_0_0_4)
def label : FVec F S8x1 .f32 := k0_pay10 (labelCol ann)

/-- The strides and the coordinates as they are loaded. -/
def strides : Vec F S1x5 .f32 := View.ld str (Rect.unit ![0, 0] S1x5.size inb_S1x5_S1x5_0_0)
def xs : Vec F S1x5456 .f32 := View.ld xy (Rect.unit ![0, 0] S1x5456.size inb_S2x5456_S1x5456_0_0)
def ys : Vec F S1x5456 .f32 := View.ld xy (Rect.unit ![1, 0] S1x5456.size inb_S2x5456_S1x5456_1_0)
def levels : Vec F S5x5456 .f32 := View.ld lev (Rect.unit ![0, 0] S5x5456.size inb_S5x5456_S5x5456_0_0)
def scores : Vec F S1x5456x80 .f32 :=
  View.ld cls (Rect.unit ![0, 0, 0] S1x5456x80.size inb_S1x5456x80_S1x5456x80_0_0_0)

/-- Each edge projected to each level. -/
def projL : FVec F S8x5 .f32 := k0_pay11 (strides str) (left ann)
def projT : FVec F S8x5 .f32 := k0_pay12 (strides str) (top ann)
def projR : FVec F S8x5 .f32 := k0_pay13 (strides str) (right ann)
def projB : FVec F S8x5 .f32 := k0_pay14 (strides str) (bottom ann)
/-- The projected widths and heights, and which annotations are real ones. -/
def width : FVec F S8x5 .f32 := k0_pay15 (strides str) (left ann) (right ann)
def height : FVec F S8x5 .f32 := k0_pay16 (strides str) (top ann) (bottom ann)
def valid : IVec S8x1 1 := k0_pay17 (labelCol ann)

/-- The points in the inner region of every annotation (the kernel's mask of the ignored surroundings' extent). -/
def maskIg : IVec S8x5456 1 :=
  k0_pay27 (xs xy) (ys xy) (projT ann str) (projB ann str) (height ann str) (valid ann)
    (k0_pay18 (strides str) (left ann) (right ann) (labelCol ann))
    (k0_pay20 (valid ann) (k0_pay19 (strides str) (left ann) (right ann)))
    (k0_pay21 (projT ann str) (height ann str) (valid ann)) (k0_pay22 (projB ann str) (height ann str) (valid ann))
    (k0_pay23 (projL ann str) (width ann str) (valid ann)) (k0_pay24 (projR ann str) (width ann str) (valid ann))
    k0_pay25 (levels lev)

/-- The points in the effective region of every annotation. -/
def maskEf : IVec S8x5456 1 :=
  k0_pay28 (xs xy) (ys xy) (projT ann str) (projB ann str) (height ann str) (valid ann)
    (k0_pay18 (strides str) (left ann) (right ann) (labelCol ann))
    (k0_pay20 (valid ann) (k0_pay19 (strides str) (left ann) (right ann)))
    (k0_pay21 (projT ann str) (height ann str) (valid ann)) (k0_pay22 (projB ann str) (height ann str) (valid ann))
    (k0_pay23 (projL ann str) (width ann str) (valid ann)) (k0_pay24 (projR ann str) (width ann str) (valid ann))
    k0_pay25 (levels lev)

/-- The point's two sums: the weighted logarithms, and the number of positive entries. -/
def lossSum : F .f32 :=
  k0_pay31 (k0_pay4 (scores cls)) (k0_pay5 (scores cls)) (label ann) (maskIg ann str xy lev) (maskEf ann str xy lev)
    (Scalar.ofBits .f32 0x41800000#32) (Scalar.ofBits .f32 0x00000000#32)
def posCount : F .f32 :=
  k0_pay32 (label ann) (maskIg ann str xy lev) (maskEf ann str xy lev)
    (Scalar.ofBits .f32 0x41800000#32) (Scalar.ofBits .f32 0x00000000#32)

/-- What the point leaves in the output's buffer, `d` being what it held before. -/
def result (b : ℕ) (d : Vec F S1x1 .f32) : Vec F S1x1 .f32 :=
  k0_pay1 (BitVec.ofNat 32 b) (lossSum ann cls str xy lev) (posCount ann str xy lev)
    (View.ld d (Rect.unit ![0, 0] ![1, 1] inb_S1x1_S1x1_0_0))

end Cert.Proof.Block

end
-- ==== Proof.Tables.lean ====
/-
  The constant tables of the programs in closed form: the level and the two coordinates of each of the 5456 points of
  the pyramid (64 × 64 points, then 32 × 32, 16 × 16, 8 × 8 and 4 × 4, each grid row by row).
-/
module

public import proofs.«01_k».proof.KernelIdeal
public import proofs.«01_k».proof.ReferenceIdeal
public import proofs.«01_k».proof.Pre_drawn
public import Idealize.ShloMosaic.Lib.Decide

@[expose] public section

set_option maxRecDepth 16384

namespace Cert.Proof.Tables

/-- The level of point `n`; then its column and its row in the level's grid. -/
def level (n : ℕ) : ℕ := if n < 4096 then 0 else if n < 5120 then 1 else if n < 5376 then 2 else if n < 5440 then 3 else 4
def column (n : ℕ) : ℕ :=
  if n < 4096 then n % 64 else if n < 5120 then (n - 4096) % 32 else if n < 5376 then (n - 5120) % 16
  else if n < 5440 then (n - 5376) % 8 else (n - 5440) % 4
def row (n : ℕ) : ℕ :=
  if n < 4096 then n / 64 else if n < 5120 then (n - 4096) / 32 else if n < 5376 then (n - 5120) / 16
  else if n < 5440 then (n - 5376) / 8 else (n - 5440) / 4

theorem ref_level : ∀ n : Fin 5456, Cert.ReferenceIdeal.lit0 n = BitVec.ofNat 32 (level n.val) := by decide +kernel
theorem pre_column : ∀ n : Fin 5456, Cert.Pre_drawn.lit0 n = BitVec.ofNat 32 (column n.val) := by decide +kernel
theorem pre_row : ∀ n : Fin 5456, Cert.Pre_drawn.lit1 n = BitVec.ofNat 32 (row n.val) := by decide +kernel

/-- The float word of a natural number below 64. -/
def word (k : ℕ) : BitVec 32 :=
  if k = 0 then 0#32 else BitVec.ofNat 32 ((127 + Nat.log2 k) * 2 ^ 23 + (k - 2 ^ Nat.log2 k) * 2 ^ (23 - Nat.log2 k))

theorem ker_column : ∀ n : Fin 5456, Cert.KernelIdeal.lit1 ⟨n.val, by omega⟩ = word (column n.val) := by decide +kernel
theorem ker_row : ∀ n : Fin 5456, Cert.KernelIdeal.lit1 ⟨5456 + n.val, by omega⟩ = word (row n.val) := by decide +kernel
theorem ker_level : ∀ (l : Fin 5) (n : Fin 5456), Cert.KernelIdeal.lit2 ⟨l.val * 5456 + n.val, by omega⟩
    = if level n.val = l.val then 0x3F800000#32 else 0x00000000#32 := by decide +kernel

end Cert.Proof.Tables
-- ==== Proof.Spec.lean ====
/-
  The focal loss of one image in exact numbers: which points lie in the effective and the inner region of which
  annotation, which entries of the points × classes table are positive and which are ignored, and the sums.
-/
module

public import proofs.«01_k».proof.Proof.Tables
public import Idealize.ShloMosaic.Lib.Pointwise

@[expose] public section

noncomputable section

namespace Cert.Proof.Spec

open Cert.Proof.Tables

/-- One image: the boxes' four edges (left, top, right, bottom), their labels (−1: no annotation), and the scores. -/
structure Image where
  box : Fin 8 → Fin 4 → ℝ
  lab : Fin 8 → ℤ
  score : Fin 5456 → Fin 80 → ℝ
  box_lo : ∀ a i, 0 ≤ box a i
  score_lo : ∀ n c, 0 < score n c
  score_hi : ∀ n c, score n c < 1

/-- The stride of a level, and an edge projected to it. -/
def scale (l : ℕ) : ℝ := 2 ^ (l + 3)
def edge (b s : ℝ) : ℤ := ⌊(b + s - 1) / s⌋

/-- The ends of an interval shrunk by the fraction `f` on either side. -/
def lower (f : ℝ) (p q : ℤ) : ℝ := p + f * ((q : ℝ) - p)
def upper (f : ℝ) (p q : ℤ) : ℝ := q - f * ((q : ℝ) - p)

/-- The fraction by which the effective region is shrunk (the single-precision number nearest to 0.4). -/
def frac : ℝ := 13421773 / 33554432

theorem frac_lo : 0 ≤ frac := by norm_num [frac]
theorem frac_hi : frac ≤ 1 := by norm_num [frac]

theorem scale_ge (l : ℕ) : 8 ≤ scale l := by
  have h : (1 : ℝ) ≤ 2 ^ l := one_le_pow₀ (by norm_num)
  rw [scale, pow_add]; linarith

theorem scale_ne (l : ℕ) : scale l ≠ 0 := by have := scale_ge l; positivity

theorem edge_lo {b s : ℝ} (hb : 0 ≤ b) (hs : 8 ≤ s) : 0 ≤ edge b s :=
  Int.floor_nonneg.2 (div_nonneg (by linarith) (by linarith))

variable {f : ℝ} {p q : ℤ}

theorem lower_lo (h0 : 0 ≤ f) (h1 : f ≤ 1) (hp : 0 ≤ p) (hq : 0 ≤ q) : 0 ≤ lower f p q := by
  have hp' : (0 : ℝ) ≤ p := by exact_mod_cast hp
  have hq' : (0 : ℝ) ≤ q := by exact_mod_cast hq
  have : lower f p q = (1 - f) * p + f * q := by rw [lower]; ring
  rw [this]; exact add_nonneg (mul_nonneg (by linarith) hp') (mul_nonneg h0 hq')

theorem upper_eq : upper f p q = lower f q p := by rw [upper, lower]; ring

section Regions

variable (I : Image)

/-- Edge `i` of annotation `a` at the level of point `n`. -/
def at' (a : Fin 8) (i : Fin 4) (n : Fin 5456) : ℤ := edge (I.box a i) (scale (level n.val))

theorem at_lo (a : Fin 8) (i : Fin 4) (n : Fin 5456) : 0 ≤ at' I a i n := edge_lo (I.box_lo a i) (scale_ge _)

/-- Point `n` lies in the inner region of annotation `a`. -/
def Ig (a : Fin 8) (n : Fin 5456) : Prop :=
  I.lab a ≠ -1 ∧ (⌊lower (1 / 4) (at' I a 0 n) (at' I a 2 n) + 1⌋ ≤ (column n.val : ℤ)
    ∧ (column n.val : ℤ) ≤ ⌊upper (1 / 4) (at' I a 0 n) (at' I a 2 n)⌋)
    ∧ ⌊lower (1 / 4) (at' I a 1 n) (at' I a 3 n) + 1⌋ ≤ (row n.val : ℤ)
    ∧ (row n.val : ℤ) ≤ ⌊upper (1 / 4) (at' I a 1 n) (at' I a 3 n)⌋

/-- Point `n` lies in the effective region of annotation `a`. -/
def Ef (a : Fin 8) (n : Fin 5456) : Prop :=
  I.lab a ≠ -1 ∧ (⌊lower frac (at' I a 0 n) (at' I a 2 n)⌋ ≤ (column n.val : ℤ)
    ∧ (column n.val : ℤ) ≤ ⌊upper frac (at' I a 0 n) (at' I a 2 n) + 1⌋)
    ∧ ⌊lower frac (at' I a 1 n) (at' I a 3 n)⌋ ≤ (row n.val : ℤ)
    ∧ (row n.val : ℤ) ≤ ⌊upper frac (at' I a 1 n) (at' I a 3 n) + 1⌋

/-- Entry `(n, c)` is positive; it is ignored (when not positive). -/
def Pos (n : Fin 5456) (c : Fin 80) : Prop := ∃ a, Ef I a n ∧ I.lab a = (c.val : ℤ)
def Ign (n : Fin 5456) (c : Fin 80) : Prop := ∃ a, Ig I a n ∧ I.lab a = (c.val : ℤ)

open Classical in
/-- An entry's share of the sum of weighted logarithms. -/
def term (n : Fin 5456) (c : Fin 80) : ℝ :=
  if Pos I n c then 1 / 4 * ((1 - I.score n c) * (1 - I.score n c)) * Real.log (I.score n c)
  else if Ign I n c then 0
  else 3 / 4 * (I.score n c * I.score n c) * Real.log (1 - I.score n c)

open Classical in
/-- The number of positive entries. -/
def count : ℕ := ∑ n, ∑ c, if Pos I n c then 1 else 0

/-- The image's loss. -/
def loss : ℝ := (-∑ n, ∑ c, term I n c) / max (count I : ℝ) 1

end Regions

section Counting

open Classical

variable (E G K : Fin 8 → Prop)

/-- The combined weight of an entry: 16 for every positive annotation, 1 for every inner one. -/
def weight : ℕ := ∑ a, ((if E a then 16 else 0) + (if G a then 1 else 0)) * (if K a then 1 else 0)

theorem weight_ge : 16 ≤ weight E G K ↔ ∃ a, E a ∧ K a := by
  constructor
  · intro h
    by_contra hn
    have hle : weight E G K ≤ ∑ _a : Fin 8, 1 := by
      refine Finset.sum_le_sum fun a _ => ?_
      by_cases hE : E a
      · have hK : ¬K a := fun hK => hn ⟨a, hE, hK⟩
        simp [hK]
      · simp only [hE, if_false, zero_add]; split_ifs <;> simp
    simp at hle; omega
  · rintro ⟨a, hE, hK⟩
    refine le_trans ?_ (Finset.single_le_sum (f := fun a => ((if E a then 16 else 0) + (if G a then 1 else 0)) * (if K a then 1 else 0))
      (fun _ _ => Nat.zero_le _) (Finset.mem_univ a))
    simp [hE, hK]

theorem weight_zero : weight E G K = 0 ↔ ¬(∃ a, E a ∧ K a) ∧ ¬∃ a, G a ∧ K a := by
  rw [weight, Finset.sum_eq_zero_iff]
  constructor
  · intro h
    refine ⟨?_, ?_⟩
    · rintro ⟨a, hE, hK⟩; have := h a (Finset.mem_univ a); simp [hE, hK] at this
    · rintro ⟨a, hG, hK⟩; have := h a (Finset.mem_univ a); simp [hG, hK] at this
  · rintro ⟨h1, h2⟩ a _
    by_cases hK : K a
    · have hE : ¬E a := fun h => h1 ⟨a, h, hK⟩
      have hG : ¬G a := fun h => h2 ⟨a, h, hK⟩
      simp [hE, hG]
    · simp [hK]

/-- How many annotations satisfy both conditions. -/
def hits : ℕ := ∑ a, (if E a then 1 else 0) * (if K a then 1 else 0)

theorem hits_pos : 0 < hits E K ↔ ∃ a, E a ∧ K a := by
  rw [Nat.pos_iff_ne_zero, hits, Ne, Finset.sum_eq_zero_iff]
  constructor
  · intro h; by_contra hn; apply h; intro a _
    by_cases hE : E a
    · have hK : ¬K a := fun hK => hn ⟨a, hE, hK⟩
      simp [hK]
    · simp [hE]
  · rintro ⟨a, hE, hK⟩ h; have := h a (Finset.mem_univ a); simp [hE, hK] at this

end Counting

/-- Both coordinates and the level lie within the pyramid. -/
theorem column_lt (n : Fin 5456) : column n.val < 64 := by rw [column]; have := n.isLt; split_ifs <;> omega
theorem row_lt (n : Fin 5456) : row n.val < 64 := by rw [row]; have := n.isLt; split_ifs <;> omega
theorem level_lt (n : Fin 5456) : level n.val < 5 := by rw [level]; split_ifs <;> omega

end Cert.Proof.Spec

end
-- ==== Proof.Words.lean ====
/-
  The numbers behind the programs' constants, and the arithmetic steps of both programs on real numbers.
-/
module

public import proofs.«01_k».proof.Proof.Spec

@[expose] public section

set_option maxRecDepth 16384

noncomputable section

namespace Cert.Proof.Words

open Idealize.ShloMosaic Cert.Proof.Tables Cert.Proof.Spec

theorem quarter : Ideal.ofBits .f32 1048576000#32 = ((1 / 4 : ℝ) : EReal) := by
  simp [Ideal.ofBits, Ideal.ieee, -EReal.coe_mul]; norm_num
theorem threeQuarters : Ideal.ofBits .f32 1061158912#32 = ((3 / 4 : ℝ) : EReal) := by
  simp [Ideal.ofBits, Ideal.ieee, -EReal.coe_mul]; norm_num
theorem half : Ideal.ofBits .f32 1056964608#32 = ((1 / 2 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem sixteen : Ideal.ofBits .f32 1098907648#32 = ((16 : ℝ) : EReal) := by
  simp [Ideal.ofBits, Ideal.ieee, -EReal.coe_mul]; norm_num
theorem fraction : Ideal.ofBits .f32 1053609165#32 = ((frac : ℝ) : EReal) := by
  simp [Ideal.ofBits, Ideal.ieee, -EReal.coe_mul]; norm_num [frac]
theorem huge : Ideal.ofBits .f32 1315859240#32 = ((1000000000 : ℝ) : EReal) := by
  simp [Ideal.ofBits, Ideal.ieee, -EReal.coe_mul]; norm_num
theorem minusOne : Ideal.ofBits .f32 3212836864#32 = ((-1 : ℝ) : EReal) := by
  simp [Ideal.ofBits, Ideal.ieee, -EReal.coe_mul, -EReal.coe_neg]; norm_num
theorem top : Ideal.ofBits .f32 0x7F800000#32 = ⊤ := by simp [Ideal.ofBits, Ideal.ieee]
theorem bot : Ideal.ofBits .f32 0xFF800000#32 = ⊥ := by simp [Ideal.ofBits, Ideal.ieee]

/-- The ends of the range of scores. -/
theorem scoreMin : ∃ r : ℝ, 0 < r ∧ Ideal.ofBits .f32 0x38D1B717#32 = (r : EReal) := by
  refine ⟨13743895 / 2 ^ 37, by norm_num, ?_⟩
  simp [Ideal.ofBits, Ideal.ieee, -EReal.coe_mul]; norm_num
theorem scoreMax : ∃ r : ℝ, r < 1 ∧ Ideal.ofBits .f32 0x3F7FF972#32 = (r : EReal) := by
  refine ⟨16775538 / 2 ^ 24, by norm_num, ?_⟩
  simp [Ideal.ofBits, Ideal.ieee, -EReal.coe_mul]; norm_num

theorem scales (l : Fin 5) :
    Ideal.ofBits .f32 (Cert.KernelIdeal.lit0 l) = ((scale l.val : ℝ) : EReal) := by
  fin_cases l <;> simp [Cert.KernelIdeal.lit0, scale, Ideal.ofBits, Ideal.ieee, -EReal.coe_mul, -EReal.coe_pow] <;>
    norm_num [-EReal.coe_pow]

theorem ref_scales (l : Fin 5) :
    Ideal.ofBits .f32 (Cert.ReferenceIdeal.lit1 l) = ((scale l.val : ℝ) : EReal) := by
  fin_cases l <;> simp [Cert.ReferenceIdeal.lit1, scale, Ideal.ofBits, Ideal.ieee, -EReal.coe_mul, -EReal.coe_pow] <;>
    norm_num [-EReal.coe_pow]

theorem word_of (k e : ℕ) (h1 : 2 ^ e ≤ k) (h2 : k < 2 ^ (e + 1)) :
    word k = BitVec.ofNat 32 ((127 + e) * 2 ^ 23 + (k - 2 ^ e) * 2 ^ (23 - e)) := by
  have hk : k ≠ 0 := by have := Nat.two_pow_pos e; omega
  rw [word, if_neg hk, (Nat.log2_eq_iff hk).2 ⟨h1, h2⟩]

/-- The word of a small natural number stands for it. -/
theorem ofBits_word (k : ℕ) (hk : k < 64) : Ideal.ofBits .f32 (word k) = ((k : ℝ) : EReal) := by
  by_cases h0 : k < 1
  · have : k = 0 := by omega
    subst this; simp [word, Ideal.ofBits, Ideal.ieee, -EReal.coe_mul]
  by_cases h1 : k < 2
  · rw [word_of k 0 (by omega) (by omega)]
    interval_cases k <;> simp [Ideal.ofBits, Ideal.ieee, -EReal.coe_mul] <;> norm_num
  by_cases h2 : k < 4
  · rw [word_of k 1 (by omega) (by omega)]
    interval_cases k <;> simp [Ideal.ofBits, Ideal.ieee, -EReal.coe_mul] <;> norm_num
  by_cases h3 : k < 8
  · rw [word_of k 2 (by omega) (by omega)]
    interval_cases k <;> simp [Ideal.ofBits, Ideal.ieee, -EReal.coe_mul] <;> norm_num
  by_cases h4 : k < 16
  · rw [word_of k 3 (by omega) (by omega)]
    interval_cases k <;> simp [Ideal.ofBits, Ideal.ieee, -EReal.coe_mul] <;> norm_num
  by_cases h5 : k < 32
  · rw [word_of k 4 (by omega) (by omega)]
    interval_cases k <;> simp [Ideal.ofBits, Ideal.ieee, -EReal.coe_mul] <;> norm_num
  by_cases h6 : k < 64
  · rw [word_of k 5 (by omega) (by omega)]
    interval_cases k <;> simp [Ideal.ofBits, Ideal.ieee, -EReal.coe_mul] <;> norm_num
  omega

variable (b s f : ℝ) (p q : ℤ)

/-- An edge projected to a level. -/
theorem edge_eq (hs : s ≠ 0) :
    Ideal.liftRound Int.floor (Ideal.div ((b : EReal) + (s : EReal) - 1) (s : EReal)) = ((edge b s : ℝ) : EReal) := by
  rw [Ideal.div_coe hs, ← EReal.coe_one, ← EReal.coe_add, ← EReal.coe_sub, ← EReal.coe_mul, mul_one_div]; rfl

/-- The shrunk ends. -/
theorem lower_eq : ((p : ℝ) : EReal) + (f : EReal) * (((q : ℝ) : EReal) - ((p : ℝ) : EReal)) = ((lower f p q : ℝ) : EReal) := by
  rw [← EReal.coe_sub, ← EReal.coe_mul, ← EReal.coe_add]; rfl
theorem upper_eq : ((q : ℝ) : EReal) - (f : EReal) * (((q : ℝ) : EReal) - ((p : ℝ) : EReal)) = ((upper f p q : ℝ) : EReal) := by
  rw [← EReal.coe_sub, ← EReal.coe_mul, ← EReal.coe_sub]; rfl

/-- Rounding down. -/
theorem floor_eq (r : ℝ) : Ideal.liftRound Int.floor (r : EReal) = ((⌊r⌋ : ℝ) : EReal) := rfl

theorem succ_eq (r : ℝ) : (r : EReal) + 1 = ((r + 1 : ℝ) : EReal) := by rw [EReal.coe_add, EReal.coe_one]

/-- A conversion to a 32-bit integer cuts to the integer toward zero, and to the range of such integers. -/
theorem toWord (r : ℝ) (h0 : 0 ≤ r) : (Ideal.fptosi 32 (r : EReal)).toInt = min 2147483647 ⌊r⌋ := by
  have a0 : 0 ≤ ⌊r⌋ := Int.floor_nonneg.2 h0
  rw [Ideal.fptosi, Ideal.toIntClamped_coe, if_pos h0, BitVec.toInt_ofInt]
  norm_num [Int.bmod]
  omega
theorem intWord (k : ℤ) : (Ideal.fptosi 32 ((k : ℝ) : EReal)).toInt = max (-2147483648) (min 2147483647 k) := by
  rw [Ideal.fptosi, Ideal.toIntClamped_coe, Int.floor_intCast, Int.ceil_intCast, ite_self, BitVec.toInt_ofInt]
  norm_num [Int.bmod]
  omega

theorem ofNat_toInt (k : ℕ) (hk : k < 1000000) : (BitVec.ofNat 32 k).toInt = (k : ℤ) := by
  rw [BitVec.toInt_ofNat']; norm_num [Int.bmod]; omega

/-- A choice by a decided bit. -/
theorem select_ofBool {α : Type} (P : Prop) [Decidable P] (x y : α) :
    Scalar.select (BitVec.ofBool (decide P)) x y = if P then x else y := by
  by_cases h : P <;> simp [h, Scalar.select]

theorem andi_ofBool (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem log_coe_pos (r : ℝ) (hr : 0 < r) : Ideal.log (r : EReal) = ((Real.log r : ℝ) : EReal) := by
  rw [Ideal.log_coe, if_neg (not_le.2 hr)]

end Cert.Proof.Words

end
-- ==== Proof.KernelMasks.lean ====
/-
  The kernel's two masks at a point: membership in the inner and in the effective region of an annotation.
-/
module

public import proofs.«01_k».proof.Proof.Block
public import proofs.«01_k».proof.Proof.Words

@[expose] public section

set_option maxRecDepth 16384

noncomputable section

namespace Cert.Proof.KernelMasks

open Cert.KernelIdeal Cert.KernelIdeal.Gen Cert.Proof.Block
open Idealize.ShloMosaic Cert.Proof.Tables Cert.Proof.Spec Cert.Proof.Words

/-- The kernel's five blocks hold the image `I` and the pyramid's tables. -/
structure Holds (I : Image) (ann : Vec Ideal S1x8x5 .f32) (cls : Vec Ideal S1x5456x80 .f32) (str : Vec Ideal S1x5 .f32)
    (xy : Vec Ideal S2x5456 .f32) (lev : Vec Ideal S5x5456 .f32) : Prop where
  left : ∀ a : Fin 8, (ann (ix3 0 a 0) : EReal) = (I.box a 0 : EReal)
  top : ∀ a : Fin 8, (ann (ix3 0 a 1) : EReal) = (I.box a 1 : EReal)
  right : ∀ a : Fin 8, (ann (ix3 0 a 2) : EReal) = (I.box a 2 : EReal)
  bottom : ∀ a : Fin 8, (ann (ix3 0 a 3) : EReal) = (I.box a 3 : EReal)
  lab : ∀ a : Fin 8, (ann (ix3 0 a 4) : EReal) = ((I.lab a : ℝ) : EReal)
  score : ∀ (n : Fin 5456) (c : Fin 80), (cls (ix3 0 n c) : EReal) = (I.score n c : EReal)
  str : ∀ l : Fin 5, (str (ix2 0 l) : EReal) = (scale l.val : EReal)
  xs : ∀ n : Fin 5456, (xy (ix2 0 n) : EReal) = ((column n.val : ℝ) : EReal)
  ys : ∀ n : Fin 5456, (xy (ix2 1 n) : EReal) = ((row n.val : ℝ) : EReal)
  lev : ∀ (l : Fin 5) (n : Fin 5456), (lev (ix2 l n) : EReal) = if level n.val = l.val then 1 else 0

section Scalars

/-- Among the five levels a point's one-hot column picks its own. -/
theorem pick (T lev : Fin 5 → EReal) (n : Fin 5456) (h : ∀ l : Fin 5, lev l = if level n.val = l.val then 1 else 0) :
    ∑ l, T l * lev l = T ⟨level n.val, level_lt n⟩ := by
  rw [Finset.sum_eq_single (⟨level n.val, level_lt n⟩ : Fin 5)]
  · rw [h]; simp
  · intro l _ hl
    rw [h, if_neg, mul_zero]
    exact fun e => hl (Fin.ext e.symm)
  · intro h; exact absurd (Finset.mem_univ _) h

theorem bar_le (v : Prop) [Decidable v] (x : ℤ) (k : ℕ) (hk : k < 64) :
    (if v then ((x : ℝ) : EReal) else ((1000000000 : ℝ) : EReal)) ≤ ((k : ℝ) : EReal) ↔ v ∧ x ≤ (k : ℤ) := by
  have hk' : (k : ℝ) < 64 := by exact_mod_cast hk
  by_cases h : v
  · rw [if_pos h, EReal.coe_le_coe_iff]
    simp only [h, true_and]
    exact_mod_cast Iff.rfl
  · rw [if_neg h, EReal.coe_le_coe_iff]
    simp only [h, false_and, iff_false, not_le]; linarith

theorem le_bar (v : Prop) [Decidable v] (x : ℤ) (k : ℕ) :
    ((k : ℝ) : EReal) ≤ (if v then ((x : ℝ) : EReal) else 0 - ((1000000000 : ℝ) : EReal)) ↔ v ∧ (k : ℤ) ≤ x := by
  have hk' : (0 : ℝ) ≤ k := Nat.cast_nonneg k
  by_cases h : v
  · rw [if_pos h, EReal.coe_le_coe_iff]
    simp only [h, true_and]
    exact_mod_cast Iff.rfl
  · rw [if_neg h, ← EReal.coe_zero, ← EReal.coe_sub, EReal.coe_le_coe_iff]
    simp only [h, false_and, iff_false, not_le]; linarith

theorem regroup (v A B C D : Prop) : (((v ∧ A) ∧ v ∧ B) ∧ v ∧ C) ∧ v ∧ D ↔ v ∧ (A ∧ B) ∧ C ∧ D := by tauto

end Scalars

section Generic

variable (v17 v18 : Vec Ideal S1x5456 .f32) (v45 v61 v63 : FVec Ideal S8x5 .f32) (v65 : IVec S8x1 1)
  (v75 v84 v94 v103 v111 v122 v123 : FVec Ideal S8x5 .f32) (v143 : Vec Ideal S5x5456 .f32)

/-- The inner mask compares the coordinates with the thresholds of the point's level. -/
theorem pay27_at (a : Fin 8) (n : Fin 5456) :
    k0_pay27 v17 v18 v45 v61 v63 v65 v75 v84 v94 v103 v111 v122 v123 v143 (ix2 a n)
      = BitVec.ofBool (decide (((((∑ x, v75 (ix2 a x) * v143 (ix2 x n) : EReal) ≤ v17 (ix2 0 n)
        ∧ (v17 (ix2 0 n) : EReal) ≤ ∑ x, v84 (ix2 a x) * v143 (ix2 x n))
        ∧ (∑ x, v94 (ix2 a x) * v143 (ix2 x n) : EReal) ≤ v18 (ix2 0 n))
        ∧ (v18 (ix2 0 n) : EReal) ≤ ∑ x, v103 (ix2 a x) * v143 (ix2 x n)))) := by
  have ha := a.isLt
  pointwise [k0_pay27, k0_pay26]
  simp only [andi_ofBool, dif_neg (show ¬16 + a.val < 8 by omega), dif_neg (show ¬16 + a.val - 8 < 8 by omega),
    dif_pos (show 16 + a.val - 8 - 8 < 8 by omega), dif_neg (show ¬24 + a.val < 8 by omega),
    dif_neg (show ¬24 + a.val - 8 < 8 by omega), dif_neg (show ¬24 + a.val - 8 - 8 < 8 by omega),
    dif_pos (show 24 + a.val - 8 - 8 - 8 < 8 by omega),
    show (⟨16 + a.val - 8 - 8, by omega⟩ : Fin 8) = a from Fin.ext (by show 16 + a.val - 8 - 8 = a.val; omega),
    show (⟨24 + a.val - 8 - 8 - 8, by omega⟩ : Fin 8) = a from Fin.ext (by show 24 + a.val - 8 - 8 - 8 = a.val; omega)]

/-- The effective mask likewise; its two row thresholds are formed on the spot. -/
theorem pay28_at (a : Fin 8) (n : Fin 5456) :
    k0_pay28 v17 v18 v45 v61 v63 v65 v75 v84 v94 v103 v111 v122 v123 v143 (ix2 a n)
      = BitVec.ofBool (decide (((((∑ x, v111 (ix2 a x) * v143 (ix2 x n) : EReal) ≤ v17 (ix2 0 n)
        ∧ (v17 (ix2 0 n) : EReal) ≤ ∑ x, v122 (ix2 a x) * v143 (ix2 x n))
        ∧ (∑ x, (Scalar.select (v65 (ix2 a 0)) (Ideal.liftRound Int.floor (v45 (ix2 a x) + v123 (ix2 a x) * v63 (ix2 a x)))
            (Ideal.ofBits .f32 1315859240#32)) * v143 (ix2 x n) : EReal) ≤ v18 (ix2 0 n))
        ∧ (v18 (ix2 0 n) : EReal) ≤ ∑ x, (Scalar.select (v65 (ix2 a 0))
            (Ideal.liftRound Int.floor (v61 (ix2 a x) - Ideal.ofBits .f32 1053609165#32 * v63 (ix2 a x) + 1))
            (0 - Ideal.ofBits .f32 1315859240#32)) * v143 (ix2 x n)))) := by
  have ha := a.isLt
  pointwise [k0_pay28, k0_pay26]
  simp only [andi_ofBool,
    dif_neg (show ¬32 + a.val < 8 by omega),
    dif_neg (show ¬32 + a.val - 8 < 8 by omega),
    dif_neg (show ¬32 + a.val - 8 - 8 < 8 by omega),
    dif_neg (show ¬32 + a.val - 8 - 8 - 8 < 8 by omega),
    dif_pos (show 32 + a.val - 8 - 8 - 8 - 8 < 8 by omega),
    show (⟨32 + a.val - 8 - 8 - 8 - 8, by omega⟩ : Fin 8) = a from Fin.ext (by show 32 + a.val - 8 - 8 - 8 - 8 = a.val; omega),
    dif_neg (show ¬40 + a.val < 8 by omega),
    dif_neg (show ¬40 + a.val - 8 < 8 by omega),
    dif_neg (show ¬40 + a.val - 8 - 8 < 8 by omega),
    dif_neg (show ¬40 + a.val - 8 - 8 - 8 < 8 by omega),
    dif_neg (show ¬40 + a.val - 8 - 8 - 8 - 8 < 8 by omega),
    dif_pos (show 40 + a.val - 8 - 8 - 8 - 8 - 8 < 8 by omega),
    show (⟨40 + a.val - 8 - 8 - 8 - 8 - 8, by omega⟩ : Fin 8) = a from Fin.ext (by show 40 + a.val - 8 - 8 - 8 - 8 - 8 = a.val; omega),
    dif_neg (show ¬48 + a.val < 8 by omega),
    dif_neg (show ¬48 + a.val - 8 < 8 by omega),
    dif_neg (show ¬48 + a.val - 8 - 8 < 8 by omega),
    dif_neg (show ¬48 + a.val - 8 - 8 - 8 < 8 by omega),
    dif_neg (show ¬48 + a.val - 8 - 8 - 8 - 8 < 8 by omega),
    dif_neg (show ¬48 + a.val - 8 - 8 - 8 - 8 - 8 < 8 by omega),
    dif_pos (show 48 + a.val - 8 - 8 - 8 - 8 - 8 - 8 < 8 by omega),
    show (⟨48 + a.val - 8 - 8 - 8 - 8 - 8 - 8, by omega⟩ : Fin 8) = a from Fin.ext (by show 48 + a.val - 8 - 8 - 8 - 8 - 8 - 8 = a.val; omega),
    dif_neg (show ¬56 + a.val < 8 by omega),
    dif_neg (show ¬56 + a.val - 8 < 8 by omega),
    dif_neg (show ¬56 + a.val - 8 - 8 < 8 by omega),
    dif_neg (show ¬56 + a.val - 8 - 8 - 8 < 8 by omega),
    dif_neg (show ¬56 + a.val - 8 - 8 - 8 - 8 < 8 by omega),
    dif_neg (show ¬56 + a.val - 8 - 8 - 8 - 8 - 8 < 8 by omega),
    dif_neg (show ¬56 + a.val - 8 - 8 - 8 - 8 - 8 - 8 < 8 by omega),
    show (⟨56 + a.val - 8 - 8 - 8 - 8 - 8 - 8 - 8, by omega⟩ : Fin 8) = a from Fin.ext (by show 56 + a.val - 8 - 8 - 8 - 8 - 8 - 8 - 8 = a.val; omega)]

end Generic

variable {I : Image} {ann : Vec Ideal S1x8x5 .f32} {cls : Vec Ideal S1x5456x80 .f32} {str : Vec Ideal S1x5 .f32}
  {xy : Vec Ideal S2x5456 .f32} {lev : Vec Ideal S5x5456 .f32} (h : Holds I ann cls str xy lev)

include h

theorem projL_at (a : Fin 8) (l : Fin 5) : projL ann str (ix2 a l) = ((edge (I.box a 0) (scale l.val) : ℝ) : EReal) := by
  pointwise [projL, k0_pay11, Block.left, k0_pay6, strides]
  rw [h.left, h.str]; exact edge_eq _ _ (scale_ne _)
theorem projT_at (a : Fin 8) (l : Fin 5) : projT ann str (ix2 a l) = ((edge (I.box a 1) (scale l.val) : ℝ) : EReal) := by
  pointwise [projT, k0_pay12, Block.top, k0_pay7, strides]
  rw [h.top, h.str]; exact edge_eq _ _ (scale_ne _)
theorem projR_at (a : Fin 8) (l : Fin 5) : projR ann str (ix2 a l) = ((edge (I.box a 2) (scale l.val) : ℝ) : EReal) := by
  pointwise [projR, k0_pay13, Block.right, k0_pay8, strides]
  rw [h.right, h.str]; exact edge_eq _ _ (scale_ne _)
theorem projB_at (a : Fin 8) (l : Fin 5) : projB ann str (ix2 a l) = ((edge (I.box a 3) (scale l.val) : ℝ) : EReal) := by
  pointwise [projB, k0_pay14, Block.bottom, k0_pay9, strides]
  rw [h.bottom, h.str]; exact edge_eq _ _ (scale_ne _)

theorem width_at (a : Fin 8) (l : Fin 5) : width ann str (ix2 a l)
    = ((edge (I.box a 2) (scale l.val) : ℝ) : EReal) - ((edge (I.box a 0) (scale l.val) : ℝ) : EReal) := by
  rw [← projL_at h a l, ← projR_at h a l]; rfl
theorem height_at (a : Fin 8) (l : Fin 5) : height ann str (ix2 a l)
    = ((edge (I.box a 3) (scale l.val) : ℝ) : EReal) - ((edge (I.box a 1) (scale l.val) : ℝ) : EReal) := by
  rw [← projT_at h a l, ← projB_at h a l]; rfl

theorem label_at (a : Fin 8) : label ann (ix2 a 0) = ((I.lab a : ℝ) : EReal) := by
  pointwise [label, k0_pay10, labelCol]
  exact h.lab a

theorem valid_at (a : Fin 8) : valid ann (ix2 a 0) = BitVec.ofBool (decide (I.lab a ≠ -1)) := by
  pointwise [valid, k0_pay17, k0_pay10, labelCol]
  rw [h.lab, minusOne]
  refine congrArg BitVec.ofBool (decide_eq_decide.2 (not_congr ?_))
  rw [EReal.coe_eq_coe_iff]; norm_cast

theorem levels_at (n : Fin 5456) (l : Fin 5) : (levels lev (ix2 l n) : EReal) = if level n.val = l.val then 1 else 0 := by
  pointwise [Block.levels]
  exact h.lev l n
theorem xs_at (n : Fin 5456) : (xs xy (ix2 0 n) : EReal) = ((column n.val : ℝ) : EReal) := by
  pointwise [xs]
  exact h.xs n
theorem ys_at (n : Fin 5456) : (ys xy (ix2 0 n) : EReal) = ((row n.val : ℝ) : EReal) := by
  pointwise [ys]
  exact h.ys n

/-! The thresholds of every annotation at every level. -/

theorem pay11_at (a : Fin 8) (l : Fin 5) :
    k0_pay11 (strides str) (Block.left ann) (ix2 a l) = ((edge (I.box a 0) (scale l.val) : ℝ) : EReal) := projL_at h a l
theorem pay13_at (a : Fin 8) (l : Fin 5) :
    k0_pay13 (strides str) (Block.right ann) (ix2 a l) = ((edge (I.box a 2) (scale l.val) : ℝ) : EReal) := projR_at h a l
theorem pay15_at (a : Fin 8) (l : Fin 5) : k0_pay15 (strides str) (Block.left ann) (Block.right ann) (ix2 a l)
    = ((edge (I.box a 2) (scale l.val) : ℝ) : EReal) - ((edge (I.box a 0) (scale l.val) : ℝ) : EReal) := width_at h a l
theorem pay17_at (a : Fin 8) : k0_pay17 (labelCol ann) (ix2 a 0) = BitVec.ofBool (decide (I.lab a ≠ -1)) := valid_at h a

theorem igL_at (a : Fin 8) (l : Fin 5) : (k0_pay18 (strides str) (Block.left ann) (Block.right ann) (labelCol ann) (ix2 a l) : EReal)
    = if I.lab a ≠ -1 then ((⌊lower (1 / 4) (edge (I.box a 0) (scale l.val)) (edge (I.box a 2) (scale l.val)) + 1⌋ : ℝ) : EReal)
      else ((1000000000 : ℝ) : EReal) := by
  pointwise [k0_pay18]
  rw [pay17_at h, pay11_at h, pay15_at h, quarter, Words.lower_eq, succ_eq, floor_eq, huge, select_ofBool]
theorem igR_at (a : Fin 8) (l : Fin 5) : (k0_pay20 (valid ann) (k0_pay19 (strides str) (Block.left ann) (Block.right ann)) (ix2 a l) : EReal)
    = if I.lab a ≠ -1 then ((⌊upper (1 / 4) (edge (I.box a 0) (scale l.val)) (edge (I.box a 2) (scale l.val))⌋ : ℝ) : EReal)
      else 0 - ((1000000000 : ℝ) : EReal) := by
  pointwise [k0_pay20, k0_pay19]
  rw [valid_at h, pay13_at h, pay15_at h, quarter, Words.upper_eq, floor_eq, huge, select_ofBool]
theorem igT_at (a : Fin 8) (l : Fin 5) : (k0_pay21 (projT ann str) (height ann str) (valid ann) (ix2 a l) : EReal)
    = if I.lab a ≠ -1 then ((⌊lower (1 / 4) (edge (I.box a 1) (scale l.val)) (edge (I.box a 3) (scale l.val)) + 1⌋ : ℝ) : EReal)
      else ((1000000000 : ℝ) : EReal) := by
  pointwise [k0_pay21]
  rw [valid_at h, projT_at h, height_at h, quarter, Words.lower_eq, succ_eq, floor_eq, huge, select_ofBool]
theorem igB_at (a : Fin 8) (l : Fin 5) : (k0_pay22 (projB ann str) (height ann str) (valid ann) (ix2 a l) : EReal)
    = if I.lab a ≠ -1 then ((⌊upper (1 / 4) (edge (I.box a 1) (scale l.val)) (edge (I.box a 3) (scale l.val))⌋ : ℝ) : EReal)
      else 0 - ((1000000000 : ℝ) : EReal) := by
  pointwise [k0_pay22]
  rw [valid_at h, projB_at h, height_at h, quarter, Words.upper_eq, floor_eq, huge, select_ofBool]
theorem efL_at (a : Fin 8) (l : Fin 5) : (k0_pay23 (projL ann str) (width ann str) (valid ann) (ix2 a l) : EReal)
    = if I.lab a ≠ -1 then ((⌊lower frac (edge (I.box a 0) (scale l.val)) (edge (I.box a 2) (scale l.val))⌋ : ℝ) : EReal)
      else ((1000000000 : ℝ) : EReal) := by
  pointwise [k0_pay23]
  rw [valid_at h, projL_at h, width_at h, fraction, Words.lower_eq, floor_eq, huge, select_ofBool]
theorem efR_at (a : Fin 8) (l : Fin 5) : (k0_pay24 (projR ann str) (width ann str) (valid ann) (ix2 a l) : EReal)
    = if I.lab a ≠ -1 then ((⌊upper frac (edge (I.box a 0) (scale l.val)) (edge (I.box a 2) (scale l.val)) + 1⌋ : ℝ) : EReal)
      else 0 - ((1000000000 : ℝ) : EReal) := by
  pointwise [k0_pay24]
  rw [valid_at h, projR_at h, width_at h, fraction, Words.upper_eq, succ_eq, floor_eq, huge, select_ofBool]
theorem efT_at (a : Fin 8) (l : Fin 5) : (Scalar.select (valid ann (ix2 a 0)) (Ideal.liftRound Int.floor
      (projT ann str (ix2 a l) + (k0_pay25 : FVec Ideal S8x5 .f32) (ix2 a l) * height ann str (ix2 a l)))
      (Ideal.ofBits .f32 1315859240#32) : EReal)
    = if I.lab a ≠ -1 then ((⌊lower frac (edge (I.box a 1) (scale l.val)) (edge (I.box a 3) (scale l.val))⌋ : ℝ) : EReal)
      else ((1000000000 : ℝ) : EReal) := by
  have e : (k0_pay25 : FVec Ideal S8x5 .f32) (ix2 a l) = ((frac : ℝ) : EReal) := by
    pointwise [k0_pay25]
    exact fraction
  rw [e, valid_at h, projT_at h, height_at h, Words.lower_eq, floor_eq, huge, select_ofBool]
theorem efB_at (a : Fin 8) (l : Fin 5) : (Scalar.select (valid ann (ix2 a 0)) (Ideal.liftRound Int.floor
      (projB ann str (ix2 a l) - Ideal.ofBits .f32 1053609165#32 * height ann str (ix2 a l) + 1))
      (0 - Ideal.ofBits .f32 1315859240#32) : EReal)
    = if I.lab a ≠ -1 then ((⌊upper frac (edge (I.box a 1) (scale l.val)) (edge (I.box a 3) (scale l.val)) + 1⌋ : ℝ) : EReal)
      else 0 - ((1000000000 : ℝ) : EReal) := by
  rw [valid_at h, projB_at h, height_at h, fraction, Words.upper_eq, succ_eq, floor_eq, huge, select_ofBool]

open Classical in
/-- The inner mask holds the inner regions. -/
theorem maskIg_at (a : Fin 8) (n : Fin 5456) :
    maskIg ann str xy lev (ix2 a n) = BitVec.ofBool (decide (Ig I a n)) := by
  rw [maskIg, pay27_at]
  refine congrArg BitVec.ofBool (decide_eq_decide.2 ?_)
  rw [pick _ _ n (levels_at h n), pick _ _ n (levels_at h n), pick _ _ n (levels_at h n), pick _ _ n (levels_at h n),
    xs_at h, ys_at h, igL_at h, igR_at h, igT_at h, igB_at h]
  refine (and_congr (and_congr (and_congr (bar_le _ _ _ (column_lt n)) (le_bar _ _ _)) (bar_le _ _ _ (row_lt n)))
    (le_bar _ _ _)).trans ?_
  exact regroup _ _ _ _ _

open Classical in
/-- The effective mask holds the effective regions. -/
theorem maskEf_at (a : Fin 8) (n : Fin 5456) :
    maskEf ann str xy lev (ix2 a n) = BitVec.ofBool (decide (Ef I a n)) := by
  rw [maskEf, pay28_at]
  refine congrArg BitVec.ofBool (decide_eq_decide.2 ?_)
  rw [pick _ _ n (levels_at h n), pick _ _ n (levels_at h n), pick _ _ n (levels_at h n), pick _ _ n (levels_at h n),
    xs_at h, ys_at h, efL_at h, efR_at h, efT_at h, efB_at h]
  refine (and_congr (and_congr (and_congr (bar_le _ _ _ (column_lt n)) (le_bar _ _ _)) (bar_le _ _ _ (row_lt n)))
    (le_bar _ _ _)).trans ?_
  exact regroup _ _ _ _ _

end Cert.Proof.KernelMasks

end
-- ==== Proof.KernelValue.lean ====
/-
  One image's block over exact numbers: the sum of weighted logarithms, the number of positive entries, and what the
  block adds to the result.
-/
module

public import proofs.«01_k».proof.Proof.KernelMasks

@[expose] public section

set_option maxRecDepth 16384

noncomputable section

namespace Cert.Proof.KernelValue

open Cert.KernelIdeal Cert.KernelIdeal.Gen Cert.Proof.Block Cert.Proof.KernelMasks
open Idealize.ShloMosaic Cert.Proof.Tables Cert.Proof.Spec Cert.Proof.Words

/-- The class number of a column, and a label's agreement with it. -/
theorem one_hot (k : ℤ) (c : Fin 80) (P : Prop) [Decidable P] (hP : P ↔ k = (c.val : ℤ)) :
    (FloatOps.sitofp (F := Ideal) .f32 (BitVec.setWidth 32 (BitVec.ofBool
      (decide (((k : ℝ) : EReal) = FloatOps.sitofp (F := Ideal) .f32 (BitVec.ofNat 32 c.val))))) : EReal)
      = ((((if P then 1 else 0 : ℕ)) : ℝ) : EReal) := by
  have e : (FloatOps.sitofp (F := Ideal) .f32 (BitVec.ofNat 32 c.val) : EReal) = (((c.val : ℤ) : ℝ) : EReal) := by
    show ((((BitVec.ofNat 32 c.val).toInt : ℝ)) : EReal) = _
    rw [ofNat_toInt _ (by have := c.isLt; omega)]
  rw [e]
  have hd : (((k : ℝ) : EReal) = (((c.val : ℤ) : ℝ) : EReal)) ↔ P := by
    rw [hP, EReal.coe_eq_coe_iff]; exact_mod_cast Iff.rfl
  by_cases h : P
  · rw [decide_eq_true (hd.2 h), if_pos h]
    show ((((BitVec.setWidth 32 (BitVec.ofBool true)).toInt : ℝ)) : EReal) = _
    rw [show (BitVec.setWidth 32 (BitVec.ofBool true)).toInt = 1 from by decide]; norm_num
  · rw [decide_eq_false (fun e => h (hd.1 e)), if_neg h]
    show ((((BitVec.setWidth 32 (BitVec.ofBool false)).toInt : ℝ)) : EReal) = _
    rw [show (BitVec.setWidth 32 (BitVec.ofBool false)).toInt = 0 from by decide]; norm_num

variable {I : Image} {ann : Vec Ideal S1x8x5 .f32} {cls : Vec Ideal S1x5456x80 .f32} {str : Vec Ideal S1x5 .f32}
  {xy : Vec Ideal S2x5456 .f32} {lev : Vec Ideal S5x5456 .f32} (h : Holds I ann cls str xy lev)

include h

open Classical in
/-- The combined weight of an entry. -/
theorem pay29_at (n : Fin 5456) (c : Fin 80) :
    (k0_pay29 (label ann) (maskIg ann str xy lev) (maskEf ann str xy lev) (Ideal.ofBits .f32 1098907648#32) (ix2 n c) : EReal)
      = ((weight (fun a => Ef I a n) (fun a => Ig I a n) (fun a => I.lab a = (c.val : ℤ)) : ℝ) : EReal) := by
  rw [weight, Nat.cast_sum, coe_sum]
  pointwise [k0_pay29]
  refine Finset.sum_congr rfl fun a _ => ?_
  rw [maskEf_at h, maskIg_at h, label_at h, one_hot (I.lab a) c _ Iff.rfl, select_ofBool, select_ofBool, sixteen]
  by_cases h1 : Ef I a n <;> by_cases h2 : Ig I a n <;> by_cases h3 : I.lab a = (c.val : ℤ) <;>
    simp only [h1, h2, h3, if_true, if_false] <;> norm_num
  rw [← EReal.coe_one, ← EReal.coe_add]; norm_num

theorem pos_iff (n : Fin 5456) (c : Fin 80) : Ideal.ofBits .f32 1098907648#32 ≤
    (k0_pay29 (label ann) (maskIg ann str xy lev) (maskEf ann str xy lev) (Ideal.ofBits .f32 1098907648#32) (ix2 n c) : EReal)
      ↔ Pos I n c := by
  rw [pay29_at h, sixteen, EReal.coe_le_coe_iff, Pos, ← weight_ge _ (fun a => Ig I a n)]
  exact_mod_cast Iff.rfl

theorem zero_iff (n : Fin 5456) (c : Fin 80) :
    (k0_pay29 (label ann) (maskIg ann str xy lev) (maskEf ann str xy lev) (Ideal.ofBits .f32 1098907648#32) (ix2 n c) : EReal) = 0
      ↔ ¬Pos I n c ∧ ¬Ign I n c := by
  rw [pay29_at h, Pos, Ign, ← weight_zero, EReal.coe_eq_zero]
  exact_mod_cast Iff.rfl

theorem pay4_at (n : Fin 5456) (c : Fin 80) : (k0_pay4 (scores cls) (ix2 n c) : EReal)
    = ((1 / 4 * ((1 - I.score n c) * (1 - I.score n c)) * Real.log (I.score n c) : ℝ) : EReal) := by
  pointwise [k0_pay4, k0_pay3, k0_pay2, scores]
  rw [h.score, quarter, log_coe_pos _ (I.score_lo n c), ← EReal.coe_one, ← EReal.coe_sub, ← EReal.coe_mul,
    ← EReal.coe_mul, ← EReal.coe_mul]

theorem pay5_at (n : Fin 5456) (c : Fin 80) : (k0_pay5 (scores cls) (ix2 n c) : EReal)
    = ((3 / 4 * (I.score n c * I.score n c) * Real.log (1 - I.score n c) : ℝ) : EReal) := by
  pointwise [k0_pay5, k0_pay3, k0_pay2, scores]
  rw [h.score, threeQuarters, ← EReal.coe_one, ← EReal.coe_sub, log_coe_pos _ (by have := I.score_hi n c; linarith),
    ← EReal.coe_mul, ← EReal.coe_mul, ← EReal.coe_mul]

/-- The sum of weighted logarithms, negated. -/
theorem lossSum_eq : (lossSum ann cls str xy lev : EReal) = ((∑ n, ∑ c, term I n c : ℝ) : EReal) := by
  unfold lossSum
  pointwise [k0_pay31, k0_pay30]
  rw [coe_sum]
  refine Finset.sum_congr rfl fun n _ => ?_
  rw [coe_sum]
  refine Finset.sum_congr rfl fun c _ => ?_
  rw [term, pay4_at h, pay5_at h]
  by_cases h1 : Pos I n c
  · rw [if_pos ((pos_iff h n c).2 h1), if_pos h1]
  · rw [if_neg (fun e => h1 ((pos_iff h n c).1 e)), if_neg h1]
    by_cases h2 : Ign I n c
    · rw [if_neg (fun e => ((zero_iff h n c).1 e).2 h2), if_pos h2, EReal.coe_zero]
    · rw [if_pos ((zero_iff h n c).2 ⟨h1, h2⟩), if_neg h2]

/-- The number of positive entries. -/
theorem posCount_eq : (posCount ann str xy lev : EReal) = ((count I : ℝ) : EReal) := by
  unfold posCount
  pointwise [k0_pay32, k0_pay30]
  rw [Spec.count, Nat.cast_sum, coe_sum]
  refine Finset.sum_congr rfl fun n _ => ?_
  rw [Nat.cast_sum, coe_sum]
  refine Finset.sum_congr rfl fun c _ => ?_
  by_cases h1 : Pos I n c
  · rw [if_pos ((pos_iff h n c).2 h1), if_pos h1]; norm_num
  · rw [if_neg (fun e => h1 ((pos_iff h n c).1 e)), if_neg h1]; norm_num

/-- The image's loss as the block forms it. -/
theorem loss_eq : Ideal.div (0 - (lossSum ann cls str xy lev : EReal)) (max (posCount ann str xy lev : EReal) 1)
    = ((loss I : ℝ) : EReal) := by
  have hm : max ((count I : ℝ) : EReal) 1 = ((max (count I : ℝ) 1 : ℝ) : EReal) := by
    rw [← EReal.coe_one]; exact (EReal.coe_strictMono.monotone.map_max).symm
  rw [lossSum_eq h, posCount_eq h, hm, Ideal.div_coe (by positivity), ← EReal.coe_zero, ← EReal.coe_sub,
    ← EReal.coe_mul, loss, zero_sub, mul_one_div]

/-- The first image's block leaves half its loss. -/
theorem result_zero (d : Vec Ideal S1x1 .f32) :
    (result ann cls str xy lev 0 d (ix2 0 0) : EReal) = ((loss I * (1 / 2) : ℝ) : EReal) := by
  pointwise [result, k0_pay1]
  rw [loss_eq h, half, ← EReal.coe_mul]

/-- The second image's block adds half its loss. -/
theorem result_one (d : Vec Ideal S1x1 .f32) (r : ℝ) (hd : (d (ix2 0 0) : EReal) = (r : EReal)) :
    (result ann cls str xy lev 1 d (ix2 0 0) : EReal) = ((r + loss I * (1 / 2) : ℝ) : EReal) := by
  pointwise [result, k0_pay1]
  rw [show Scalar.cmpi CmpIPredicate.eq 1#32 0#32 = 0#1 from by decide, loss_eq h, half, hd, ← EReal.coe_mul,
    ← EReal.coe_add]
  rfl

end Cert.Proof.KernelValue

end
-- ==== Proof.Body.lean ====
/-
  The kernel's body run once at symbolic buffers: from the five blocks it reads and any contents of the output's
  buffer and of the two words of scratch, it returns the blocks as they were and the output's buffer at
  `Block.result` of them.
-/
module

public import proofs.«01_k».proof.Proof.Block
public import proofs.«01_k».proof.Proof.Gen.KernelIdeal.Frame
public import Idealize.ShloMosaic.Lib.VecWindow

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first branch: the second grid coordinate is 0. It holds at every point. -/
abbrev isFirst (i : grid0.Coords) : Prop :=
  (Scalar.cmpi .ne (Scalar.extui (Scalar.cmpi .eq (BitVec.ofNat 32 (i 1).val) 0#32)) 0#32) = 1#1

private theorem isFirst_any (i : grid0.Coords) : isFirst i := by
  have h : (i 1).val = 0 := by have := (i 1).isLt; change _ < 1 at this; omega
  unfold isFirst; rw [h]; decide

/-- The condition of the body's last branch, likewise. -/
theorem isLast_any (i : grid0.Coords) : k0_cond2 i = 1#1 := by
  have h : (i 1).val = 0 := by have := (i 1).isLt; change _ < 1 at this; omega
  unfold k0_cond2; dsimp only; rw [h]; decide

set_option maxHeartbeats 1000000 in
/-- The body's triple. -/
theorem triple (c : Dev nD) (i : grid0.Coords)
    (arg2 : Memref sig .tc .vmem S1x8x5 .f32) (harg2 : arg2.IsWhole)
    (arg3 : Memref sig .tc .vmem S1x5456x80 .f32) (harg3 : arg3.IsWhole)
    (arg4 : Memref sig .tc .vmem S1x5 .f32) (harg4 : arg4.IsWhole)
    (arg5 : Memref sig .tc .vmem S2x5456 .f32) (harg5 : arg5.IsWhole)
    (arg6 : Memref sig .tc .vmem S5x5456 .f32) (harg6 : arg6.IsWhole)
    (arg7 : Memref sig .tc .vmem S1x1 .f32) (harg7 : arg7.IsWhole)
    (arg8 : Memref sig .tc .smem S2 .f32) (harg8 : arg8.IsWhole)
    (ann : Vec F S1x8x5 .f32) (cls : Vec F S1x5456x80 .f32) (str : Vec F S1x5 .f32) (xy : Vec F S2x5456 .f32)
    (lev : Vec F S5x5456 .f32) (d : Vec F S1x1 .f32) (E : Set ℕ) (K : PUnit → sProp 𝕄) :
    iprop(owns (c : Thread nD τ) arg2 fullShare ann ∗ owns (c : Thread nD τ) arg3 fullShare cls
        ∗ owns (c : Thread nD τ) arg4 fullShare str ∗ owns (c : Thread nD τ) arg5 fullShare xy
        ∗ owns (c : Thread nD τ) arg6 fullShare lev ∗ owns (c : Thread nD τ) arg7 fullShare d
        ∗ (∃ s, owns (c : Thread nD τ) arg8 fullShare s)
        ∗ (iprop(owns (c : Thread nD τ) arg2 fullShare ann ∗ owns (c : Thread nD τ) arg3 fullShare cls
            ∗ owns (c : Thread nD τ) arg4 fullShare str ∗ owns (c : Thread nD τ) arg5 fullShare xy
            ∗ owns (c : Thread nD τ) arg6 fullShare lev
            ∗ owns (c : Thread nD τ) arg7 fullShare (Block.result ann cls str xy lev (i 0).val d)
            ∗ (∃ s, owns (c : Thread nD τ) arg8 fullShare s)) -∗ K ⟨⟩))
      ⊢ wp frame (wpE (defs₀ (F := F)) Variants.none c none) E
          (cc0__focal_kernel i arg2 harg2 arg3 harg3 arg4 harg4 arg5 harg5 arg6 harg6 arg7 harg7 arg8 harg8) K := by
  have hc0 : isFirst i := isFirst_any i
  have hc1 : k0_cond2 i = 1#1 := isLast_any i
  simp only [cc0__focal_kernel_eq_skeleton]; unfold cc0__focal_kernel_skel
  simp only [k0_part1_eq_skeleton, k0_part2_eq_skeleton, k0_part3_eq_skeleton, k0_part4_eq_skeleton,
    k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%s0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    sl_unfold_run_names
    simp only [View.readAt_eq_ld, hf0, hf1, hf2, hf3, hf4, hf5]
    rw [View.read_writes_full]
    rfl
  iexists _, _; isplitr; swap; · iexact HS0
  ipureintro; rfl

end Cert.Proof.Body

end
-- ==== Proof.KernelRun.lean ====
/-
  The kernel's launch: the proof data of its pipeline (what every buffer holds after each of the two grid points), the
  body's obligation at a point, the run, the argument arrays it leaves unchanged with every counter at zero, and the
  value of its result array: the second point's `Block.result` over the first point's.
-/
module

public import proofs.«01_k».proof.Proof.Body
public import Idealize.ShloMosaic.Lib.Pipeline.ValueKit

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's buffer holds after the body at point `t` that found `d` in it. -/
def leaves (c : Dev nD) (t : Fin cfg0.N) (b : ℕ) (d : Vec F S1x1 .f32) : Vec F S1x1 .f32 :=
  Block.result (iblk m c 0 t) (iblk m c 1 t) (iblk m c 2 t) (iblk m c 3 t) (iblk m c 4 t) b d

/-- At the first point the body does not look at what it found. -/
theorem pay1_zero (a n : F .f32) (d d' : Vec F S1x1 .f32) : k0_pay1 (BitVec.ofNat 32 0) a n d = k0_pay1 (BitVec.ofNat 32 0) a n d' := by
  unfold k0_pay1
  have h : Scalar.cmpi .eq (BitVec.ofNat 32 0) 0#32 = 1#1 := by decide
  simp only [h]
  rfl
theorem leaves_first (c : Dev nD) (t : Fin cfg0.N) (d d' : Vec F S1x1 .f32) : leaves m c t 0 d = leaves m c t 0 d' := by
  unfold leaves Block.result
  exact pay1_zero _ _ _ _

theorem coord_0 : (grid0.coords t0_0 0).val = 0 := by decide +kernel
theorem coord_1 : (grid0.coords t0_1 0).val = 1 := by decide +kernel

/-- The output's buffer after the first point, and after the second. -/
def first (c : Dev nD) : Vec F S1x1 .f32 := leaves m c t0_0 0 (fun _ => Scalar.ofBits .f32 0x00000000#32)
def second (c : Dev nD) : Vec F S1x1 .f32 := leaves m c t0_1 1 (first m c)

/-- The output's buffer after point `t`. -/
def outAt (c : Dev nD) (t : Fin cfg0.N) : Vec F S1x1 .f32 := if t.val = 0 then first m c else second m c

/-- The proof data: the arrays as launched, each input's block left in place, the output's buffer at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output's window is written at every point. -/
theorem idle_5 (i : cfg0.grid.Coords) : cfg0.idle 5 i = false := by
  have h : (!(k0_cond2 i == 1#1)) = false := by rw [Body.isLast_any i]; rfl
  exact h

/-- The body, handed the output's buffer as the pipeline keeps it, leaves `outAt`. -/
theorem leaves_before (c : Dev nD) (t : Fin cfg0.N) (d) :
    leaves m c t (grid0.coords t 0).val ((dats m 0 c).before 5 t d) = outAt m c t := by
  rcases fin_N0 t with rfl | rfl
  · rw [coord_0, leaves_first m c t0_0 _ (fun _ => Scalar.ofBits .f32 0x00000000#32)]
    unfold outAt
    rw [if_pos (show t0_0.val = 0 from rfl)]
    rfl
  · rw [coord_1, (dats m 0 c).before_out_kept 5 rfl t0_1 (by decide)
      (by rw [Bool.eq_false_iff, ne_eq, flush0_5]; decide) idle_5 (fun _ _ => rfl) d, after_5]
    unfold outAt
    rw [if_pos (show t0_1.val - 1 = 0 from rfl), if_neg (show ¬ t0_1.val = 0 from by decide)]
    rfl

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The two words of scratch. -/
abbrev scratch : Memref sig .tc .smem S2 .f32 := Memref.whole cc0_scratch0

/-- Between points the scratch and the generator register are held at something. -/
theorem between_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq]
  rw [show (dats m 0 c).leavesExact 0 t = owns (c : Thread nD τ) (st0_0 t) fullShare ((dats m 0 c).after 0 t) from by
      unfold Dat.leavesExact; rw [show cfg0.idle 0 (cfg0.grid.coords t) = false from rfl], after_0]
  rw [show (dats m 0 c).leavesExact 1 t = owns (c : Thread nD τ) (st0_1 t) fullShare ((dats m 0 c).after 1 t) from by
      unfold Dat.leavesExact; rw [show cfg0.idle 1 (cfg0.grid.coords t) = false from rfl], after_1]
  rw [show (dats m 0 c).leavesExact 2 t = owns (c : Thread nD τ) (st0_2 t) fullShare ((dats m 0 c).after 2 t) from by
      unfold Dat.leavesExact; rw [show cfg0.idle 2 (cfg0.grid.coords t) = false from rfl], after_2]
  rw [show (dats m 0 c).leavesExact 3 t = owns (c : Thread nD τ) (st0_3 t) fullShare ((dats m 0 c).after 3 t) from by
      unfold Dat.leavesExact; rw [show cfg0.idle 3 (cfg0.grid.coords t) = false from rfl], after_3]
  rw [show (dats m 0 c).leavesExact 4 t = owns (c : Thread nD τ) (st0_4 t) fullShare ((dats m 0 c).after 4 t) from by
      unfold Dat.leavesExact; rw [show cfg0.idle 4 (cfg0.grid.coords t) = false from rfl], after_4]
  rw [show (dats m 0 c).leavesExact 5 t = owns (c : Thread nD τ) (st0_5 t) fullShare ((dats m 0 c).after 5 t) from by
      unfold Dat.leavesExact; rw [idle_5 (cfg0.grid.coords t)], after_5]
  iintro ⟨⟨HS0, Hg⟩, Ho, ⟨%d0, H0⟩, ⟨%d1, H1⟩, ⟨%d2, H2⟩, ⟨%d3, H3⟩, ⟨%d4, H4⟩, ⟨%d5, H5⟩⟩
  rw [← leaves_before m c t d5]
  iapply (Body.triple c (grid0.coords t) _ _ _ _ _ _ _ _ _ _ _ _ _ _ (iblk m c 0 t) (iblk m c 1 t) (iblk m c 2 t)
    (iblk m c 3 t) (iblk m c 4 t) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: from zero counters every execution ends, every staged array at what the proof data say of it, every other
    buffer as the last host operation leaves it, and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) := θ_run_and (frame_of m ρ (dats m) (A_eq m) (run m ρ))
  ((θ_run defs _ _).mono (fun _ h => h.2) (run_quiescent m ρ))

/-- The pipeline's result array at the end: the output's buffer after the second point. -/
theorem result_array (c : Dev nD) : (dats m 0 c).arrAt 5 (cfgs 0).N = second m c := by
  refine (dats m 0 c).arrAt_eq_of_after_last 5 t0_1 (by decide +kernel) _ fun j => ?_
  rw [after_5]
  rfl

/-- The program's result, with the arguments unchanged. -/
theorem value : θ_run defs (onTc (τ := τ) (main (F := F))) ⟨m, fun _ => 0, ρ⟩ (fun r => ∀ c : Dev nD,
    r.2.mem ((c.tc : Thread nD τ).loc main_v1) = shapeCast S_ (second m c) shapeCasts_S1x1_S_) := by
  refine (θ_run defs _ _).mono (fun r h c => ?_) (run m ρ)
  refine ((h c).2 main_v1 (Pipeline.mem_restRefs_of main_v1 (by decide) (by decide))).trans ?_
  unfold Pipeline.afterTail₀
  simp only [List.flatten_cons, List.flatten_nil, List.append_nil, StableHlo.after_cons, StableHlo.after_nil]
  rw [StableHlo.reshape_result]
  erw [Pipeline.withArrays_arr spec0 winFacts0.arr_inj c (V0 m c) (fun w => (dats m 0 c).arrAt w (cfgs 0).N) 5]
  rw [result_array]
  rfl

end Cert.Proof.KernelRun

end
-- ==== Proof.Inputs.lean ====
/-
  What the precondition says of the arrays: the two images' boxes, labels and scores are real numbers in their ranges, and
  the coordinates are the pyramid's.
-/
module

public import proofs.«01_k».proof.Proof.Words

@[expose] public section

set_option maxRecDepth 16384

noncomputable section

namespace Cert.Proof.Inputs

open Cert.Pre_drawn
open Idealize.ShloMosaic Cert.Proof.Tables Cert.Proof.Spec Cert.Proof.Words

variable [Facts] (P : FVec Ideal S2x5456x80 .f32) (Q : FVec Ideal S2x5456x4 .f32) (B : FVec Ideal S2x8x5 .f32)
  (R : FVec Ideal S2x3x512x512 .f32) (X Y : IVec S5456 32) (s : IVec S_ 32)

/-- What the precondition says. -/
def Drawn : Prop := (fn P Q B R X Y s).1 = (fun _ => 1#1) ∧ (fn P Q B R X Y s).2.1 = (fun _ => 1#1)
  ∧ (fn P Q B R X Y s).2.2.1 = (fun _ => 1#1) ∧ (fn P Q B R X Y s).2.2.2.1 = (fun _ => 1#1)
  ∧ (fn P Q B R X Y s).2.2.2.2 = (fun _ => 1#1)

theorem bit (p : Prop) [Decidable p] : BitVec.ofBool (decide p) = 1#1 ↔ p := by by_cases h : p <;> simp [h]
theorem both (p q : Prop) [Decidable p] [Decidable q] :
    IntOp.andi (BitVec.ofBool (decide p)) (BitVec.ofBool (decide q)) = 1#1 ↔ p ∧ q := by
  rw [andi_ofBool, bit]

/-- A value between two real numbers is a real number between them. -/
theorem real_between (v : EReal) (a b : ℝ) (h0 : (a : EReal) ≤ v) (h1 : v ≤ (b : EReal)) :
    ∃ r : ℝ, v = (r : EReal) ∧ a ≤ r ∧ r ≤ b := by
  have e : v = (v.toReal : EReal) := (EReal.coe_toReal (ne_top_of_le_ne_top (EReal.coe_ne_top _) h1)
    (ne_bot_of_le_ne_bot (EReal.coe_ne_bot _) h0)).symm
  rw [e, EReal.coe_le_coe_iff] at h0 h1
  exact ⟨_, e, h0, h1⟩

variable {P Q B R X Y s} (h : Drawn P Q B R X Y s)

include h

theorem score_range (j : Fin 2) (n : Fin 5456) (c : Fin 80) : (Ideal.ofBits .f32 953267991#32 ≤ (P (ix3 j n c) : EReal))
    ∧ ((P (ix3 j n c) : EReal) ≤ Ideal.ofBits .f32 1065351538#32) := by
  have e := congrFun h.1 (ix3 j n c)
  rw [← both, ← e]
  pointwise [fn, fn_part1]

theorem score_real (j : Fin 2) (n : Fin 5456) (c : Fin 80) : ∃ r : ℝ, (P (ix3 j n c) : EReal) = r ∧ 0 < r ∧ r < 1 := by
  obtain ⟨h0, h1⟩ := score_range h j n c
  obtain ⟨a, a0, ea⟩ := scoreMin
  obtain ⟨b, b1, eb⟩ := scoreMax
  obtain ⟨r, e, r0, r1⟩ := real_between (P (ix3 j n c)) a b (ea ▸ h0) (eb ▸ h1)
  exact ⟨r, e, by linarith, by linarith⟩

theorem box_real (j : Fin 2) (a : Fin 8) (i : Fin 4) :
    ∃ r : ℝ, (B (ix3 j a ⟨i.val, by omega⟩) : EReal) = r ∧ 0 ≤ r := by
  have e := congrFun h.2.1 (ix3 j a i)
  have hb : (0 : EReal) ≤ (B (ix3 j a ⟨i.val, by omega⟩) : EReal)
      ∧ (B (ix3 j a ⟨i.val, by omega⟩) : EReal) < Ideal.ofBits .f32 2139095040#32 := by
    rw [← both, ← e]
    pointwise [fn, fn_part1]
  obtain ⟨h0, h1⟩ := hb
  rw [top] at h1
  have er := EReal.coe_toReal h1.ne (ne_bot_of_le_ne_bot EReal.zero_ne_bot h0)
  exact ⟨_, er.symm, EReal.toReal_nonneg h0⟩

theorem lab_int (j : Fin 2) (a : Fin 8) : ∃ k : ℤ, (B (ix3 j a 4) : EReal) = ((k : ℝ) : EReal) := by
  have e := congrFun h.2.2.1 (ix2 j a)
  have hb : (Ideal.ofBits .f32 4286578688#32 < (B (ix3 j a 4) : EReal)
      ∧ (B (ix3 j a 4) : EReal) < Ideal.ofBits .f32 2139095040#32)
      ∧ Ideal.liftRound Int.floor (B (ix3 j a 4)) = B (ix3 j a 4) := by
    rw [← both, ← andi_ofBool, ← e]
    pointwise [fn, fn_part1]
  obtain ⟨⟨h0, h1⟩, f⟩ := hb
  rw [bot] at h0
  rw [top] at h1
  have er := (EReal.coe_toReal h1.ne h0.ne').symm
  rw [er, Words.floor_eq] at f
  exact ⟨_, er.trans f.symm⟩

theorem word_eq (v w : BitVec 32) (e : IntOp.cmpi CmpIPredicate.eq v w = 1#1) : v = w := by
  have e' : BitVec.ofBool (v == w) = 1#1 := e
  by_contra hn
  rw [beq_eq_false_iff_ne.2 hn] at e'
  exact absurd e' (by decide)

theorem x_word (n : Fin 5456) : X (ix1 n) = BitVec.ofNat 32 (column n.val) := by
  have e := congrFun h.2.2.2.1 (ix1 n)
  rw [← pre_column n]
  refine word_eq h _ _ (Eq.trans ?_ e)
  pointwise [fn, fn_part1]
  rw [show S5456.rowMajor (ix1 n) = n from Fin.ext (Shape.rowMajor_val_one _)]
theorem y_word (n : Fin 5456) : Y (ix1 n) = BitVec.ofNat 32 (row n.val) := by
  have e := congrFun h.2.2.2.2 (ix1 n)
  rw [← pre_row n]
  refine word_eq h _ _ (Eq.trans ?_ e)
  pointwise [fn, fn_part1]
  rw [show S5456.rowMajor (ix1 n) = n from Fin.ext (Shape.rowMajor_val_one _)]

omit h in
variable (P B) in
/-- The arrays' image `j` is `I`. -/
structure IsImage (j : Fin 2) (I : Image) : Prop where
  box : ∀ (a : Fin 8) (i : Fin 4), (B (ix3 j a ⟨i.val, by omega⟩) : EReal) = (I.box a i : EReal)
  lab : ∀ a : Fin 8, (B (ix3 j a 4) : EReal) = ((I.lab a : ℝ) : EReal)
  score : ∀ (n : Fin 5456) (c : Fin 80), (P (ix3 j n c) : EReal) = (I.score n c : EReal)

theorem exists_image (j : Fin 2) : ∃ I : Image, IsImage P B j I := by
  choose b hb using fun a : Fin 8 => fun i : Fin 4 => box_real h j a i
  choose l hl using fun a : Fin 8 => lab_int h j a
  choose p hp using fun n : Fin 5456 => fun c : Fin 80 => score_real h j n c
  exact ⟨⟨b, l, p, fun a i => (hb a i).2, fun n c => (hp n c).2.1, fun n c => (hp n c).2.2⟩,
    ⟨fun a i => (hb a i).1, hl, fun n c => (hp n c).1⟩⟩

/-- Clipping a score to its range leaves it. -/
theorem clip_eq (j : Fin 2) (n : Fin 5456) (c : Fin 80) :
    min (Ideal.ofBits .f32 1065351538#32) (max (Ideal.ofBits .f32 953267991#32) (P (ix3 j n c) : EReal)) = P (ix3 j n c) := by
  rw [max_eq_right (score_range h j n c).1, min_eq_right (score_range h j n c).2]

end Cert.Proof.Inputs

end
-- ==== Proof.KernelInputs.lean ====
/-
  What the kernel's blocks hold at a grid point: the point's image of the two argument arrays, and the pyramid's tables.
-/
module

public import proofs.«01_k».proof.Proof.KernelRun
public import proofs.«01_k».proof.Proof.KernelMasks
public import proofs.«01_k».proof.Proof.Inputs

@[expose] public section

set_option maxRecDepth 16384

noncomputable section

namespace Cert.Proof.KernelInputs

open Cert.KernelIdeal Cert.KernelIdeal.Gen
open Idealize.ShloMosaic Idealize.ShloMosaic.TcCoe Idealize.ShloMosaic.Tactic Cert.Proof.Tables Cert.Proof.Spec Cert.Proof.Words

variable (m : (ℓ : Loc nD τ sig) → Buf (Elt Ideal) ℓ) (c : Dev nD)

/-- Where each operand's block lies at a point. -/
theorem idx : ∀ t : Fin cfg0.N, (cfg0.win 0).index t = ![(grid0.coords t 0).val, 0, 0]
    ∧ (cfg0.win 1).index t = ![(grid0.coords t 0).val, 0, 0] ∧ (cfg0.win 2).index t = ![0, 0]
    ∧ (cfg0.win 3).index t = ![0, 0] ∧ (cfg0.win 4).index t = ![0, 0] := by decide +kernel

theorem ann_at (t : Fin cfg0.N) (j : Fin 2) (hj : (grid0.coords t 0).val = j.val) (a : Fin 8) (k : Fin 5) :
    (iblk m c 0 t : Vec Ideal S1x8x5 .f32) (ix3 0 a k) = m ((c : Thread nD τ).loc main_arg2) (ix3 j a k) := by
  blk_ext [iblk, V_main_arg2, idx t, hj]
theorem cls_at (t : Fin cfg0.N) (j : Fin 2) (hj : (grid0.coords t 0).val = j.val) (n : Fin 5456) (k : Fin 80) :
    (iblk m c 1 t : Vec Ideal S1x5456x80 .f32) (ix3 0 n k) = m ((c : Thread nD τ).loc main_arg0) (ix3 j n k) := by
  blk_ext [iblk, V_main_arg0, idx t, hj]
theorem str_at (t : Fin cfg0.N) (l : Fin 5) :
    (iblk m c 2 t : Vec Ideal S1x5 .f32) (ix2 0 l) = V m c main_cst (ix2 0 l) := by
  blk_ext [iblk, idx t]
theorem xy_at (t : Fin cfg0.N) (i : Fin 2) (n : Fin 5456) :
    (iblk m c 3 t : Vec Ideal S2x5456 .f32) (ix2 i n) = V m c main_cst_0 (ix2 i n) := by
  blk_ext [iblk, idx t]
theorem lev_at (t : Fin cfg0.N) (l : Fin 5) (n : Fin 5456) :
    (iblk m c 4 t : Vec Ideal S5x5456 .f32) (ix2 l n) = V m c main_cst_1 (ix2 l n) := by
  blk_ext [iblk, idx t]

/-! The three tables as the region finds them. -/

theorem V_cst : V m c main_cst = fun i => FloatOps.ofBits (F := Ideal) .f32 (lit0 (S1x5.rowMajor i)) := by
  simp only [V, V0, hostOps0, List.flatten_cons, List.flatten_nil, List.append_nil, StableHlo.after_cons, StableHlo.after_nil]
  rw [StableHlo.nullary_result_ne' _ _ _ (by decide), StableHlo.nullary_result_ne' _ _ _ (by decide),
    StableHlo.nullary_result']
  rfl
theorem V_cst_0 : V m c main_cst_0 = fun i => FloatOps.ofBits (F := Ideal) .f32 (lit1 (S2x5456.rowMajor i)) := by
  simp only [V, V0, hostOps0, List.flatten_cons, List.flatten_nil, List.append_nil, StableHlo.after_cons, StableHlo.after_nil]
  rw [StableHlo.nullary_result_ne' _ _ _ (by decide), StableHlo.nullary_result']
  rfl
theorem V_cst_1 : V m c main_cst_1 = fun i => FloatOps.ofBits (F := Ideal) .f32 (lit2 (S5x5456.rowMajor i)) := by
  simp only [V, V0, hostOps0, List.flatten_cons, List.flatten_nil, List.append_nil, StableHlo.after_cons, StableHlo.after_nil]
  rw [StableHlo.nullary_result']
  rfl

theorem str_eq (l : Fin 5) : V m c main_cst (ix2 0 l) = ((scale l.val : ℝ) : EReal) := by
  rw [V_cst]
  show Ideal.ofBits .f32 (lit0 (S1x5.rowMajor (ix2 0 l))) = _
  rw [show S1x5.rowMajor (ix2 0 l) = l from Fin.ext ((Shape.rowMajor_val_two _).trans (by show 0 * 5 + l.val = l.val; omega)),
    scales]
theorem xs_eq (n : Fin 5456) : V m c main_cst_0 (ix2 0 n) = ((column n.val : ℝ) : EReal) := by
  rw [V_cst_0]
  show Ideal.ofBits .f32 (lit1 (S2x5456.rowMajor (ix2 0 n))) = _
  rw [show S2x5456.rowMajor (ix2 0 n) = (⟨n.val, by omega⟩ : Fin 10912) from
    Fin.ext ((Shape.rowMajor_val_two _).trans (by show 0 * 5456 + n.val = n.val; omega)), ker_column,
    ofBits_word _ (column_lt n)]
theorem ys_eq (n : Fin 5456) : V m c main_cst_0 (ix2 1 n) = ((row n.val : ℝ) : EReal) := by
  rw [V_cst_0]
  show Ideal.ofBits .f32 (lit1 (S2x5456.rowMajor (ix2 1 n))) = _
  rw [show S2x5456.rowMajor (ix2 1 n) = (⟨5456 + n.val, by omega⟩ : Fin 10912) from
    Fin.ext ((Shape.rowMajor_val_two _).trans (by show 1 * 5456 + n.val = 5456 + n.val; omega)), ker_row,
    ofBits_word _ (row_lt n)]
theorem lev_eq (l : Fin 5) (n : Fin 5456) : V m c main_cst_1 (ix2 l n) = (if level n.val = l.val then 1 else 0 : EReal) := by
  rw [V_cst_1]
  show Ideal.ofBits .f32 (lit2 (S5x5456.rowMajor (ix2 l n))) = _
  rw [show S5x5456.rowMajor (ix2 l n) = (⟨l.val * 5456 + n.val, by omega⟩ : Fin 27280) from
    Fin.ext (Shape.rowMajor_val_two _), ker_level]
  split_ifs
  · exact Ideal.ofBits_one_f32
  · exact Ideal.ofBits_zero_f32

/-- The blocks at the point of image `j`. -/
theorem holds (t : Fin cfg0.N) (j : Fin 2) (hj : (grid0.coords t 0).val = j.val) (I : Image)
    (hI : Inputs.IsImage (m ((c : Thread nD τ).loc main_arg0)) (m ((c : Thread nD τ).loc main_arg2)) j I) :
    KernelMasks.Holds I (iblk m c 0 t) (iblk m c 1 t) (iblk m c 2 t) (iblk m c 3 t) (iblk m c 4 t) where
  left a := (ann_at m c t j hj a 0).trans (hI.box a 0)
  top a := (ann_at m c t j hj a 1).trans (hI.box a 1)
  right a := (ann_at m c t j hj a 2).trans (hI.box a 2)
  bottom a := (ann_at m c t j hj a 3).trans (hI.box a 3)
  lab a := (ann_at m c t j hj a 4).trans (hI.lab a)
  score n k := (cls_at m c t j hj n k).trans (hI.score n k)
  str l := (str_at m c t l).trans (str_eq m c l)
  xs n := (xy_at m c t 0 n).trans (xs_eq m c n)
  ys n := (xy_at m c t 1 n).trans (ys_eq m c n)
  lev l n := (lev_at m c t l n).trans (lev_eq m c l n)

end Cert.Proof.KernelInputs

end
-- ==== Proof.RefBlock.lean ====
/-
  The reference's computation for one image, as functions of the image's annotations and clipped scores and of the
  coordinate arrays; both images are instances of it.
-/
module

public import proofs.«01_k».proof.Proof.Gen.ReferenceIdeal.Run

@[expose] public section

set_option maxRecDepth 16384

noncomputable section

namespace Cert.Proof.RefBlock

open Cert.ReferenceIdeal Cert.ReferenceIdeal.Gen Cert.ReferenceIdeal.Value
open Idealize.ShloMosaic Idealize.ShloMosaic.TcCoe Idealize.ShloMosaic.StableHlo

variable {F : FTy → Type} [FloatOps F]

/-- The strides of the levels, and the points' levels. -/
def strides : FVec F S5 .f32 := (fun i => FloatOps.ofBits .f32 (lit1 (S5.rowMajor i)))
def levels : IVec S5456 32 := (fun i => lit0 (S5456.rowMajor i))

/-- Which annotations are real ones; the edges projected to each level; the projected widths and heights. -/
def valid (A : FVec F S8x5 .f32) : IVec S8 1 :=
  cmpf .une (shapeCast _ (extractStridedSlice S8x1 ![0, 4] A slices_S8x5_S8x1_0_4) shapeCasts_S8x1_S8)
    (broadcastInDim S8 ![] bcast_S_S8 (constant S_ .f32 0xBF800000#32))
def edges (A : FVec F S8x5 .f32) : FVec F S8x5x4 .f32 :=
  Host.floor (Host.divf (subf (addf (broadcastInDim S8x5x4 ![0, 1, 2] bcast_S8x1x4_S8x5x4_0_1_2
    (broadcastInDim S8x1x4 ![0, 2] bcast_S8x4_S8x1x4_0_2 (extractStridedSlice S8x4 ![0, 0] A slices_S8x5_S8x4_0_0)))
    (broadcastInDim S8x5x4 ![0, 1, 2] bcast_S1x5x1_S8x5x4_0_1_2
    (broadcastInDim S1x5x1 ![1] bcast_S5_S1x5x1_1 strides))) (broadcastInDim S8x5x4 ![] bcast_S_S8x5x4
    (constant S_ .f32 0x3F800000#32))) (broadcastInDim S8x5x4 ![0, 1, 2] bcast_S1x5x1_S8x5x4_0_1_2
    (broadcastInDim S1x5x1 ![1] bcast_S5_S1x5x1_1 strides)))
def width (E : FVec F S8x5x4 .f32) : FVec F S8x5 .f32 :=
  subf (shapeCast _ (extractStridedSlice S8x5x1 ![0, 0, 2] E slices_S8x5x4_S8x5x1_0_0_2) shapeCasts_S8x5x1_S8x5)
    (shapeCast _ (extractStridedSlice S8x5x1 ![0, 0, 0] E slices_S8x5x4_S8x5x1_0_0_0) shapeCasts_S8x5x1_S8x5)
def height (E : FVec F S8x5x4 .f32) : FVec F S8x5 .f32 :=
  subf (shapeCast _ (extractStridedSlice S8x5x1 ![0, 0, 3] E slices_S8x5x4_S8x5x1_0_0_3) shapeCasts_S8x5x1_S8x5)
    (shapeCast _ (extractStridedSlice S8x5x1 ![0, 0, 1] E slices_S8x5x4_S8x5x1_0_0_1) shapeCasts_S8x5x1_S8x5)

/-- The four ends shrunk by the fraction with word `w`, at each level, and then at each point's level. -/
def ends (w : BitVec 32) (E : FVec F S8x5x4 .f32) : FVec F S8x5x4 .f32 :=
  concatenate S8x5x4 2 [⟨S8x5x1, ((broadcastInDim S8x5x1 ![0, 1] bcast_S8x5_S8x5x1_0_1 (addf (shapeCast _
    (extractStridedSlice S8x5x1 ![0, 0, 0] E slices_S8x5x4_S8x5x1_0_0_0) shapeCasts_S8x5x1_S8x5) (mulf
    (broadcastInDim S8x5 ![] bcast_S_S8x5 (constant S_ .f32 w)) (width E)))))⟩, ⟨S8x5x1,
    ((broadcastInDim S8x5x1 ![0, 1] bcast_S8x5_S8x5x1_0_1 (addf (shapeCast _
    (extractStridedSlice S8x5x1 ![0, 0, 1] E slices_S8x5x4_S8x5x1_0_0_1) shapeCasts_S8x5x1_S8x5) (mulf
    (broadcastInDim S8x5 ![] bcast_S_S8x5 (constant S_ .f32 w)) (height E)))))⟩, ⟨S8x5x1,
    ((broadcastInDim S8x5x1 ![0, 1] bcast_S8x5_S8x5x1_0_1 (subf (shapeCast _
    (extractStridedSlice S8x5x1 ![0, 0, 2] E slices_S8x5x4_S8x5x1_0_0_2) shapeCasts_S8x5x1_S8x5) (mulf
    (broadcastInDim S8x5 ![] bcast_S_S8x5 (constant S_ .f32 w)) (width E)))))⟩, ⟨S8x5x1,
    ((broadcastInDim S8x5x1 ![0, 1] bcast_S8x5_S8x5x1_0_1 (subf (shapeCast _
    (extractStridedSlice S8x5x1 ![0, 0, 3] E slices_S8x5x4_S8x5x1_0_0_3) shapeCasts_S8x5x1_S8x5) (mulf
    (broadcastInDim S8x5 ![] bcast_S_S8x5 (constant S_ .f32 w))
    (height E)))))⟩] concatenates_S8x5x1_S8x5x1_S8x5x1_S8x5x1_S8x5x4_d2
def points : IVec S5456x1 32 :=
  broadcastInDim S5456x1 ![0] bcast_S5456_S5456x1_0 (select (cmpi .slt levels
    (broadcastInDim S5456 ![] bcast_S_S5456 (constantI S_ 32 0#32))) (addi levels
    (broadcastInDim S5456 ![] bcast_S_S5456 (constantI S_ 32 5#32))) levels)
def shrunk (w : BitVec 32) (E : FVec F S8x5x4 .f32) : FVec F S8x5456x4 .f32 :=
  Host.gather gather_S8x5x4_S5456x1_S8x5456x4_02_1_n_n_1_1_814 (ends w E) points

/-- The masks of the effective and the inner regions, the one-hot labels, and the targets. -/
def effective (S : FVec F S8x5456x4 .f32) (A : FVec F S8x5 .f32) (x y : IVec S5456 32) : IVec S8x5456 1 :=
  (andi (andi (andi (andi (cmpi .sge (broadcastInDim S8x5456 ![0, 1] bcast_S1x5456_S8x5456_0_1
    (broadcastInDim S1x5456 ![1] bcast_S5456_S1x5456_1 x)) (fptosi 32 (shapeCast _
    (extractStridedSlice S8x5456x1 ![0, 0, 0] S slices_S8x5456x4_S8x5456x1_0_0_0) shapeCasts_S8x5456x1_S8x5456)))
    (cmpi .sle (broadcastInDim S8x5456 ![0, 1] bcast_S1x5456_S8x5456_0_1
    (broadcastInDim S1x5456 ![1] bcast_S5456_S1x5456_1 x)) (fptosi 32 (addf (shapeCast _
    (extractStridedSlice S8x5456x1 ![0, 0, 2] S slices_S8x5456x4_S8x5456x1_0_0_2) shapeCasts_S8x5456x1_S8x5456)
    (broadcastInDim S8x5456 ![] bcast_S_S8x5456 (constant S_ .f32 0x3F800000#32)))))) (cmpi .sge
    (broadcastInDim S8x5456 ![0, 1] bcast_S1x5456_S8x5456_0_1 (broadcastInDim S1x5456 ![1] bcast_S5456_S1x5456_1 y))
    (fptosi 32 (shapeCast _ (extractStridedSlice S8x5456x1 ![0, 0, 1] S slices_S8x5456x4_S8x5456x1_0_0_1)
    shapeCasts_S8x5456x1_S8x5456)))) (cmpi .sle (broadcastInDim S8x5456 ![0, 1] bcast_S1x5456_S8x5456_0_1
    (broadcastInDim S1x5456 ![1] bcast_S5456_S1x5456_1 y)) (fptosi 32 (addf (shapeCast _
    (extractStridedSlice S8x5456x1 ![0, 0, 3] S slices_S8x5456x4_S8x5456x1_0_0_3) shapeCasts_S8x5456x1_S8x5456)
    (broadcastInDim S8x5456 ![] bcast_S_S8x5456 (constant S_ .f32 0x3F800000#32))))))
    (broadcastInDim S8x5456 ![0, 1] bcast_S8x1_S8x5456_0_1 (broadcastInDim S8x1 ![0] bcast_S8_S8x1_0 (valid A))))
def inner (S : FVec F S8x5456x4 .f32) (A : FVec F S8x5 .f32) (x y : IVec S5456 32) : IVec S8x5456 1 :=
  (andi (andi (andi (andi (cmpi .sge (broadcastInDim S8x5456 ![0, 1] bcast_S1x5456_S8x5456_0_1
    (broadcastInDim S1x5456 ![1] bcast_S5456_S1x5456_1 x)) (fptosi 32 (addf (shapeCast _
    (extractStridedSlice S8x5456x1 ![0, 0, 0] S slices_S8x5456x4_S8x5456x1_0_0_0) shapeCasts_S8x5456x1_S8x5456)
    (broadcastInDim S8x5456 ![] bcast_S_S8x5456 (constant S_ .f32 0x3F800000#32))))) (cmpi .sle
    (broadcastInDim S8x5456 ![0, 1] bcast_S1x5456_S8x5456_0_1 (broadcastInDim S1x5456 ![1] bcast_S5456_S1x5456_1 x))
    (fptosi 32 (shapeCast _ (extractStridedSlice S8x5456x1 ![0, 0, 2] S slices_S8x5456x4_S8x5456x1_0_0_2)
    shapeCasts_S8x5456x1_S8x5456)))) (cmpi .sge (broadcastInDim S8x5456 ![0, 1] bcast_S1x5456_S8x5456_0_1
    (broadcastInDim S1x5456 ![1] bcast_S5456_S1x5456_1 y)) (fptosi 32 (addf (shapeCast _
    (extractStridedSlice S8x5456x1 ![0, 0, 1] S slices_S8x5456x4_S8x5456x1_0_0_1) shapeCasts_S8x5456x1_S8x5456)
    (broadcastInDim S8x5456 ![] bcast_S_S8x5456 (constant S_ .f32 0x3F800000#32)))))) (cmpi .sle
    (broadcastInDim S8x5456 ![0, 1] bcast_S1x5456_S8x5456_0_1 (broadcastInDim S1x5456 ![1] bcast_S5456_S1x5456_1 y))
    (fptosi 32 (shapeCast _ (extractStridedSlice S8x5456x1 ![0, 0, 3] S slices_S8x5456x4_S8x5456x1_0_0_3)
    shapeCasts_S8x5456x1_S8x5456)))) (broadcastInDim S8x5456 ![0, 1] bcast_S8x1_S8x5456_0_1
    (broadcastInDim S8x1 ![0] bcast_S8_S8x1_0 (valid A))))
def hot (A : FVec F S8x5 .f32) : FVec F S8x80 .f32 :=
  uitofp .f32 (cmpi .eq (broadcastInDim S8x80 ![0, 1] bcast_S8x1_S8x80_0_1 (broadcastInDim S8x1 ![0] bcast_S8_S8x1_0
    (fptosi 32 (shapeCast _ (extractStridedSlice S8x1 ![0, 4] A slices_S8x5_S8x1_0_4) shapeCasts_S8x1_S8))))
    (broadcastInDim S8x80 ![0, 1] bcast_S1x80_S8x80_0_1 (iotaInDim S1x80 32 1)))
def assign (Ef Ig : IVec S8x5456 1) (A : FVec F S8x5 .f32) : FVec F S5456x80 .f32 :=
  select (cmpf .ogt (Host.dotGeneral dot_S8x5456_S8x80_S5456x80_0_0_1_1_n_n none (uitofp .f32 Ef) (hot A))
    (broadcastInDim S5456x80 ![] bcast_S_S5456x80 (constant S_ .f32 0x00000000#32)))
    (broadcastInDim S5456x80 ![] bcast_S_S5456x80 (constant S_ .f32 0x3F800000#32)) (select (cmpf .ogt
    (Host.dotGeneral dot_S8x5456_S8x80_S5456x80_0_0_1_1_n_n none (uitofp .f32 Ig) (hot A))
    (broadcastInDim S5456x80 ![] bcast_S_S5456x80 (constant S_ .f32 0x00000000#32)))
    (broadcastInDim S5456x80 ![] bcast_S_S5456x80 (constant S_ .f32 0xBF800000#32))
    (broadcastInDim S5456x80 ![] bcast_S_S5456x80 (constant S_ .f32 0x00000000#32)))
def target (A : FVec F S8x5 .f32) (x y : IVec S5456 32) : FVec F S5456x80 .f32 :=
  assign (effective (shrunk 0x3ECCCCCD#32 (edges A)) A x y) (inner (shrunk 0x3E800000#32 (edges A)) A x y) A

/-- The image's loss from the clipped scores and the targets: its entries, their sum, and the number of positive
    ones. -/
def entries (C T : FVec F S5456x80 .f32) : FVec F S5456x80 .f32 :=
  select (cmpf .une T (broadcastInDim S5456x80 ![] bcast_S_S5456x80 (constant S_ .f32 0xBF800000#32))) (mulf (mulf
    (id (select (cmpf .oeq T (broadcastInDim S5456x80 ![] bcast_S_S5456x80 (constant S_ .f32 0x3F800000#32)))
    (broadcastInDim S5456x80 ![] bcast_S_S5456x80 (constant S_ .f32 0x3E800000#32))
    (broadcastInDim S5456x80 ![] bcast_S_S5456x80 (constant S_ .f32 0x3F400000#32)))) (Host.powf (select
    (cmpf .oeq T (broadcastInDim S5456x80 ![] bcast_S_S5456x80 (constant S_ .f32 0x3F800000#32))) (subf
    (broadcastInDim S5456x80 ![] bcast_S_S5456x80 (constant S_ .f32 0x3F800000#32)) C) C)
    (broadcastInDim S5456x80 ![] bcast_S_S5456x80 (constant S_ .f32 0x40000000#32)))) (Host.negf (addf (mulf (id T)
    (Host.log C)) (mulf (id (subf (broadcastInDim S5456x80 ![] bcast_S_S5456x80
    (constant S_ .f32 0x3F800000#32)) T)) (Host.log (subf (broadcastInDim S5456x80 ![] bcast_S_S5456x80
    (constant S_ .f32 0x3F800000#32)) C)))))) (broadcastInDim S5456x80 ![] bcast_S_S5456x80 (id
    (constant S_ .f32 0x00000000#32)))
def loss (C T : FVec F S5456x80 .f32) : FVec F S_ .f32 :=
  Host.divf (Host.reduceAdd (entries C T) (constant S_ .f32 0x00000000#32) reducesTo_S5456x80_S_d0_1 h_S_) (maximumf
    (sitofp .f32 (Host.reduce IntOp.addi (extui 32 (cmpf .oeq T (broadcastInDim S5456x80 ![] bcast_S_S5456x80
    (constant S_ .f32 0x3F800000#32))) natLt_1_32) (constantI S_ 32 0#32) reducesTo_S5456x80_S_d0_1 h_S_))
    (constant S_ .f32 0x3F800000#32))

theorem target_0 (V0 : Valuation τ sig (Elt F)) : res_main_v176 V0
    = target (res_main_v4 V0) (V0 (Proc.devRef .tc main_arg4)) (V0 (Proc.devRef .tc main_arg5)) := rfl
theorem target_1 (V0 : Valuation τ sig (Elt F)) : res_main_v389 V0
    = target (res_main_v217 V0) (V0 (Proc.devRef .tc main_arg4)) (V0 (Proc.devRef .tc main_arg5)) := rfl

/-- The result of a run: the mean of the two images' losses. -/
def mean (a b : FVec F S_ .f32) : FVec F S_ .f32 :=
  Host.divf (Host.reduceAdd (concatenate S2 0 [⟨S1, broadcastInDim S1 ![] bcast_S_S1 a⟩, ⟨S1, broadcastInDim S1 ![]
    bcast_S_S1 b⟩] concatenates_S1_S1_S2_d0)
    (constant S_ .f32 0x00000000#32) reducesTo_S2_S_d0 h_S_) (constant S_ .f32 0x40000000#32)

open Idealize.SL.Sem in
/-- A run of the reference leaves that mean and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v430)
        = mean (loss (res_main_v2 (launchContents m c)) (res_main_v176 (launchContents m c)))
            (loss (res_main_v215 (launchContents m c)) (res_main_v389 (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Proof.RefBlock

end
-- ==== Proof.RefMasks.lean ====
/-
  The reference's two masks and its targets at an entry: membership in the regions, and the entry's kind.
-/
module

public import proofs.«01_k».proof.Proof.RefBlock
public import proofs.«01_k».proof.Proof.Words

@[expose] public section

set_option maxRecDepth 16384

noncomputable section

namespace Cert.Proof.RefMasks

open Cert.ReferenceIdeal Cert.ReferenceIdeal.Gen Cert.Proof.RefBlock
open Idealize.ShloMosaic Cert.Proof.Tables Cert.Proof.Spec Cert.Proof.Words

/-- The reference's operands hold the image `I` and the pyramid's coordinates. -/
structure Holds (I : Image) (A : FVec Ideal S8x5 .f32) (C : FVec Ideal S5456x80 .f32) (x y : IVec S5456 32) : Prop where
  box : ∀ (a : Fin 8) (i : Fin 4), (A (ix2 a ⟨i.val, by omega⟩) : EReal) = (I.box a i : EReal)
  lab : ∀ a : Fin 8, (A (ix2 a 4) : EReal) = ((I.lab a : ℝ) : EReal)
  score : ∀ (n : Fin 5456) (c : Fin 80), (C (ix2 n c) : EReal) = (I.score n c : EReal)
  xs : ∀ n : Fin 5456, x (ix1 n) = BitVec.ofNat 32 (column n.val)
  ys : ∀ n : Fin 5456, y (ix1 n) = BitVec.ofNat 32 (row n.val)

section Scalars

/-- The comparisons of a coordinate's word with the word of a number that is not negative. -/
theorem cmp_ge (k : ℕ) (hk : k < 64) (r : ℝ) (h0 : 0 ≤ r) :
    IntOp.cmpi CmpIPredicate.sge (BitVec.ofNat 32 k) (FloatOps.fptosi (F := Ideal) (φ := .f32) 32 ((r : ℝ) : EReal))
      = BitVec.ofBool (decide (⌊r⌋ ≤ (k : ℤ))) := by
  show BitVec.ofBool (BitVec.sle (Ideal.fptosi 32 (r : EReal)) (BitVec.ofNat 32 k)) = _
  rw [BitVec.sle_eq_decide, toWord r h0, ofNat_toInt k (by omega)]
  exact congrArg BitVec.ofBool (decide_eq_decide.2 (by omega))
theorem cmp_le (k : ℕ) (hk : k < 64) (r : ℝ) (h0 : 0 ≤ r) :
    IntOp.cmpi CmpIPredicate.sle (BitVec.ofNat 32 k) (FloatOps.fptosi (F := Ideal) (φ := .f32) 32 ((r : ℝ) : EReal))
      = BitVec.ofBool (decide ((k : ℤ) ≤ ⌊r⌋)) := by
  show BitVec.ofBool (BitVec.sle (BitVec.ofNat 32 k) (Ideal.fptosi 32 (r : EReal))) = _
  rw [BitVec.sle_eq_decide, toWord r h0, ofNat_toInt k (by omega)]
  exact congrArg BitVec.ofBool (decide_eq_decide.2 (by omega))

theorem cmp_eq (k : ℤ) (c : Fin 80) :
    IntOp.cmpi CmpIPredicate.eq (FloatOps.fptosi (F := Ideal) (φ := .f32) 32 ((k : ℝ) : EReal)) (BitVec.ofNat 32 c.val)
      = BitVec.ofBool (decide (k = (c.val : ℤ))) := by
  show BitVec.ofBool (Ideal.fptosi 32 ((k : ℝ) : EReal) == BitVec.ofNat 32 c.val) = _
  refine congrArg BitVec.ofBool ?_
  have hc := c.isLt
  rw [Bool.eq_iff_iff, beq_iff_eq, decide_eq_true_iff, ← BitVec.toInt_inj, intWord, ofNat_toInt c.val (by omega)]
  omega

theorem uitofp_ofBool (P : Prop) [Decidable P] : (FloatOps.uitofp (F := Ideal) .f32 (BitVec.ofBool (decide P)) : EReal)
    = (((if P then 1 else 0 : ℕ) : ℝ) : EReal) := by
  show (((BitVec.ofBool (decide P)).toNat : ℝ) : EReal) = _
  by_cases h : P <;> simp [h]

end Scalars

theorem points_at (n : Fin 5456) : (points (ix2 n 0)).toInt = (level n.val : ℤ) := by
  have hl := level_lt n
  pointwise [points, RefBlock.levels]
  rw [show S5456.rowMajor (ix1 n) = n from Fin.ext (Shape.rowMajor_val_one _), ref_level]
  generalize level n.val = k at hl
  interval_cases k <;> decide

/-- The gather reads the point's level. -/
theorem gather_at (v : FVec Ideal S8x5x4 .f32) (a : Fin 8) (n : Fin 5456) (e : Fin 4) :
    Host.gather gather_S8x5x4_S5456x1_S8x5456x4_02_1_n_n_1_1_814 v points (ix3 a n e)
      = v (ix3 a ⟨level n.val, level_lt n⟩ e) := by
  refine congrArg v (funext fun b => Fin.ext ?_)
  fin_cases b
  · show 0 + 0 + a.val = a.val
    omega
  · have hs : gather_S8x5x4_S5456x1_S8x5456x4_02_1_n_n_1_1_814.siIdx (ix3 a n e) ⟨0, by decide⟩ = ix2 n 0 := by
      funext b; fin_cases b <;> rfl
    show min (points (gather_S8x5x4_S5456x1_S8x5456x4_02_1_n_n_1_1_814.siIdx (ix3 a n e) ⟨0, by decide⟩)).toInt.toNat 4
      + 0 + 0 = level n.val
    rw [hs, points_at]
    have hl := level_lt n
    omega
  · show 0 + 0 + e.val = e.val
    omega

variable {I : Image} {A : FVec Ideal S8x5 .f32} {C : FVec Ideal S5456x80 .f32} {x y : IVec S5456 32} (h : Holds I A C x y)

include h

theorem edges_at (a : Fin 8) (l : Fin 5) (i : Fin 4) :
    edges A (ix3 a l i) = ((edge (I.box a i) (scale l.val) : ℝ) : EReal) := by
  pointwise [edges, strides]
  rw [h.box, show S5.rowMajor (ix1 l) = l from Fin.ext (Shape.rowMajor_val_one _), ref_scales]
  exact edge_eq _ _ (scale_ne _)

section Ends

variable {w : BitVec 32} {f : ℝ} (hw : Ideal.ofBits .f32 w = (f : EReal)) (a : Fin 8) (n : Fin 5456)

include hw

/-! The four shrunk ends at a point. -/

theorem left_at : shrunk w (edges A) (ix3 a n 0) = ((lower f (at' I a 0 n) (at' I a 2 n) : ℝ) : EReal) := by
  rw [shrunk, gather_at]
  pointwise [ends, width]
  rw [edges_at h, edges_at h, hw, Words.lower_eq]; rfl
theorem top_at : shrunk w (edges A) (ix3 a n 1) = ((lower f (at' I a 1 n) (at' I a 3 n) : ℝ) : EReal) := by
  rw [shrunk, gather_at]
  pointwise [ends, height]
  rw [edges_at h, edges_at h, hw, Words.lower_eq]; rfl
theorem right_at : shrunk w (edges A) (ix3 a n 2) = ((upper f (at' I a 0 n) (at' I a 2 n) : ℝ) : EReal) := by
  rw [shrunk, gather_at]
  pointwise [ends, width]
  rw [edges_at h, edges_at h, hw, Words.upper_eq]; rfl
theorem bottom_at : shrunk w (edges A) (ix3 a n 3) = ((upper f (at' I a 1 n) (at' I a 3 n) : ℝ) : EReal) := by
  rw [shrunk, gather_at]
  pointwise [ends, height]
  rw [edges_at h, edges_at h, hw, Words.upper_eq]; rfl

end Ends

theorem valid_at (a : Fin 8) : BitVec.ofBool (decide ((A (ix2 a 4) : EReal) ≠ Ideal.ofBits .f32 3212836864#32))
    = BitVec.ofBool (decide (I.lab a ≠ -1)) := by
  refine congrArg BitVec.ofBool (decide_eq_decide.2 (not_congr ?_))
  rw [h.lab, minusOne, EReal.coe_eq_coe_iff]; norm_cast

omit h in
/-- A shrunk end is not negative. -/
theorem lower_range {f : ℝ} (h0 : 0 ≤ f) (h1 : f ≤ 1) (a : Fin 8) (i j : Fin 4) (n : Fin 5456) :
    0 ≤ lower f (at' I a i n) (at' I a j n) := lower_lo h0 h1 (at_lo I a i n) (at_lo I a j n)
omit h in
theorem upper_range {f : ℝ} (h0 : 0 ≤ f) (h1 : f ≤ 1) (a : Fin 8) (i j : Fin 4) (n : Fin 5456) :
    0 ≤ upper f (at' I a i n) (at' I a j n) := by
  rw [Spec.upper_eq]; exact lower_range h0 h1 a j i n

theorem regroup (v P Q R T : Prop) : (((P ∧ Q) ∧ R) ∧ T) ∧ v ↔ v ∧ (P ∧ Q) ∧ R ∧ T := by tauto

open Classical in
/-- The mask of the effective regions. -/
theorem effective_at (a : Fin 8) (n : Fin 5456) :
    effective (shrunk 0x3ECCCCCD#32 (edges A)) A x y (ix2 a n) = BitVec.ofBool (decide (Ef I a n)) := by
  have l0 := lower_range (I := I) frac_lo frac_hi a 0 2 n
  have l1 := lower_range (I := I) frac_lo frac_hi a 1 3 n
  have u0 := upper_range (I := I) frac_lo frac_hi a 0 2 n
  have u1 := upper_range (I := I) frac_lo frac_hi a 1 3 n
  pointwise [effective, valid]
  rw [h.xs, h.ys, left_at h fraction, top_at h fraction, right_at h fraction, bottom_at h fraction, succ_eq, succ_eq,
    valid_at h, cmp_ge _ (column_lt n) _ l0, cmp_ge _ (row_lt n) _ l1,
    cmp_le _ (column_lt n) _ (by linarith),
    cmp_le _ (row_lt n) _ (by linarith), andi_ofBool, andi_ofBool, andi_ofBool, andi_ofBool]
  exact congrArg BitVec.ofBool (decide_eq_decide.2 (regroup h _ _ _ _ _))

open Classical in
/-- The mask of the inner regions. -/
theorem inner_at (a : Fin 8) (n : Fin 5456) :
    RefBlock.inner (shrunk 0x3E800000#32 (edges A)) A x y (ix2 a n) = BitVec.ofBool (decide (Ig I a n)) := by
  have q0 : (0 : ℝ) ≤ 1 / 4 := by norm_num
  have q1 : (1 / 4 : ℝ) ≤ 1 := by norm_num
  have l0 := lower_range (I := I) q0 q1 a 0 2 n
  have l1 := lower_range (I := I) q0 q1 a 1 3 n
  have u0 := upper_range (I := I) q0 q1 a 0 2 n
  have u1 := upper_range (I := I) q0 q1 a 1 3 n
  pointwise [RefBlock.inner, valid]
  rw [h.xs, h.ys, left_at h quarter, top_at h quarter, right_at h quarter, bottom_at h quarter, succ_eq, succ_eq,
    valid_at h, cmp_ge _ (column_lt n) _ (by linarith),
    cmp_ge _ (row_lt n) _ (by linarith),
    cmp_le _ (column_lt n) _ u0,
    cmp_le _ (row_lt n) _ u1, andi_ofBool, andi_ofBool, andi_ofBool, andi_ofBool]
  exact congrArg BitVec.ofBool (decide_eq_decide.2 (regroup h _ _ _ _ _))

open Classical in
theorem hot_at (a : Fin 8) (c : Fin 80) :
    (hot A (ix2 a c) : EReal) = (((if I.lab a = (c.val : ℤ) then 1 else 0 : ℕ) : ℝ) : EReal) := by
  pointwise [hot]
  rw [h.lab, cmp_eq, uitofp_ofBool]

open Classical in
/-- The product of a mask with the one-hot labels counts the annotations. -/
theorem hits_at (E : IVec S8x5456 1) (P : Fin 8 → Prop) (n : Fin 5456) (c : Fin 80)
    (hE : ∀ a, E (ix2 a n) = BitVec.ofBool (decide (P a))) :
    (0 : EReal) < ∑ a : Fin 8, (FloatOps.uitofp (F := Ideal) .f32 (E (ix2 a n)) : EReal) * hot A (ix2 a c)
      ↔ ∃ a, P a ∧ I.lab a = (c.val : ℤ) := by
  rw [← hits_pos]
  have e : ∑ a : Fin 8, (FloatOps.uitofp (F := Ideal) .f32 (E (ix2 a n)) : EReal) * hot A (ix2 a c)
      = ((hits P (fun a => I.lab a = (c.val : ℤ)) : ℝ) : EReal) := by
    rw [hits, Nat.cast_sum, coe_sum]
    refine Finset.sum_congr rfl fun a _ => ?_
    rw [hE, uitofp_ofBool, hot_at h, ← EReal.coe_mul, Nat.cast_mul]
    by_cases h1 : P a <;> by_cases h2 : I.lab a = (c.val : ℤ) <;> simp [h1, h2]
  rw [e, ← EReal.coe_zero, EReal.coe_lt_coe_iff]
  exact_mod_cast Iff.rfl

open Classical in
/-- The target of an entry. -/
theorem target_at (n : Fin 5456) (c : Fin 80) : (target A x y (ix2 n c) : EReal)
    = ((if Pos I n c then 1 else if Ign I n c then -1 else 0 : ℝ) : EReal) := by
  rw [target]
  pointwise [assign]
  have hp := hits_at h _ (fun a => Ef I a n) n c (fun a => effective_at h a n)
  have hi := hits_at h _ (fun a => Ig I a n) n c (fun a => inner_at h a n)
  by_cases h1 : Pos I n c
  · rw [if_pos (hp.2 h1), if_pos h1, EReal.coe_one]
  · rw [if_neg (fun e => h1 (hp.1 e)), if_neg h1]
    by_cases h2 : Ign I n c
    · rw [if_pos (hi.2 h2), if_pos h2, minusOne]
    · rw [if_neg (fun e => h2 (hi.1 e)), if_neg h2, EReal.coe_zero]

end Cert.Proof.RefMasks

end
-- ==== Proof.RefValue.lean ====
/-
  The reference's value: each image's array of entries sums to the image's loss, and the result is the mean of the two.
-/
module

public import proofs.«01_k».proof.Proof.RefMasks
public import Idealize.ShloMosaic.Lib.IndicatorCount

@[expose] public section

set_option maxRecDepth 16384

noncomputable section

namespace Cert.Proof.RefValue

open Cert.ReferenceIdeal Cert.ReferenceIdeal.Gen Cert.Proof.RefBlock Cert.Proof.RefMasks
open Idealize.ShloMosaic Cert.Proof.Tables Cert.Proof.Spec Cert.Proof.Words

theorem square (r : ℝ) : Ideal.pow (r : EReal) ((2 : ℝ) : EReal) = ((r * r : ℝ) : EReal) := by
  rw [Ideal.pow_coe_coe]
  refine congrArg _ ?_
  show r ^ (2 : ℝ) = r * r
  rw [Real.rpow_two, sq]

variable {I : Image} {A : FVec Ideal S8x5 .f32} {C : FVec Ideal S5456x80 .f32} {x y : IVec S5456 32} (h : Holds I A C x y)

include h

open Classical in
theorem target_one (n : Fin 5456) (c : Fin 80) :
    BitVec.ofBool (decide ((target A x y (ix2 n c) : EReal) = 1)) = BitVec.ofBool (decide (Pos I n c)) := by
  refine congrArg BitVec.ofBool (decide_eq_decide.2 ?_)
  rw [target_at h, ← EReal.coe_one, EReal.coe_eq_coe_iff]
  split_ifs with h1 h2 <;> norm_num [h1]

open Classical in
/-- An entry of the weighted losses. -/
theorem entries_at (n : Fin 5456) (c : Fin 80) :
    (entries C (target A x y) (ix2 n c) : EReal) = ((-term I n c : ℝ) : EReal) := by
  have s0 := I.score_lo n c
  have s1 : 0 < 1 - I.score n c := by linarith [I.score_hi n c]
  pointwise [entries, id_eq]
  rw [target_at h, h.score, term]
  have one : (1 : EReal) - (I.score n c : EReal) = ((1 - I.score n c : ℝ) : EReal) := by
    rw [EReal.coe_sub, EReal.coe_one]
  have ne : ∀ r s : ℝ, r ≠ s → ((r : ℝ) : EReal) ≠ (s : EReal) := fun r s e => fun e' => e (EReal.coe_eq_coe_iff.1 e')
  rw [one, quarter, threeQuarters, two, minusOne, log_coe_pos _ s0, log_coe_pos _ s1]
  by_cases h1 : Pos I n c
  · rw [if_pos h1, if_pos h1, if_pos (ne _ _ (by norm_num)), EReal.coe_one, if_pos rfl, if_pos rfl, square, ← EReal.coe_one,
      ← EReal.coe_sub]
    simp only [← EReal.coe_mul, ← EReal.coe_add, ← EReal.coe_neg]
    congr 1; ring
  · rw [if_neg h1, if_neg h1]
    by_cases h2 : Ign I n c
    · rw [if_pos h2, if_pos h2, if_neg (not_not.2 rfl), neg_zero, EReal.coe_zero]
    · rw [if_neg h2, if_neg h2, if_pos (ne _ _ (by norm_num)), ← EReal.coe_one, if_neg (ne _ _ (by norm_num)),
        if_neg (ne _ _ (by norm_num)), square, ← EReal.coe_sub]
      simp only [← EReal.coe_mul, ← EReal.coe_add, ← EReal.coe_neg]
      congr 1; ring

omit h in
open Classical in
theorem count_card : count I = (Finset.univ.filter fun k : Fin 5456 × Fin 80 => Pos I k.1 k.2).card := by
  rw [Spec.count, Finset.card_filter, Fintype.sum_prod_type]

omit h in
theorem count_hi (I : Image) : count I ≤ 436480 := by
  classical
  rw [count_card]
  refine (Finset.card_le_univ _).trans (le_of_eq ?_)
  rw [Fintype.card_prod, Fintype.card_fin, Fintype.card_fin]

open Classical in
/-- The reference's count of positive entries. -/
theorem positives : Finset.univ.fold IntOp.addi (0#32) (fun k : Fin 5456 × Fin 80 =>
      BitVec.setWidth 32 (BitVec.ofBool (decide ((target A x y (ix2 k.1 k.2) : EReal) = 1))))
    = BitVec.ofNat 32 (count I) := by
  rw [IndicatorCount.fold_addi_setWidth_eq_card, count_card]
  refine congrArg (fun s : Finset (Fin 5456 × Fin 80) => BitVec.ofNat 32 s.card) (Finset.filter_congr fun k _ => ?_)
  rw [target_one h]
  by_cases e : Pos I k.1 k.2 <;> simp [e]

omit h in
theorem sitofp_count (I : Image) : (FloatOps.sitofp (F := Ideal) .f32 (BitVec.ofNat 32 (count I)) : EReal)
    = ((count I : ℝ) : EReal) := by
  have hc := count_hi I
  show (((BitVec.ofNat 32 (count I)).toInt : ℝ) : EReal) = _
  rw [ofNat_toInt _ (by omega), Int.cast_natCast]

/-- The loss of an image. -/
theorem loss_at : (RefBlock.loss C (target A x y) ix0 : EReal) = ((Spec.loss I : ℝ) : EReal) := by
  pointwise [RefBlock.loss]
  have e : ∑ n : Fin 5456, ∑ c : Fin 80, (entries C (target A x y) (ix2 n c) : EReal)
      = ((∑ n, ∑ c, -term I n c : ℝ) : EReal) := by
    rw [coe_sum]
    refine Finset.sum_congr rfl fun n _ => ?_
    rw [coe_sum]
    exact Finset.sum_congr rfl fun c _ => entries_at h n c
  have p : max (count I : ℝ) 1 ≠ 0 := ne_of_gt (lt_of_lt_of_le one_pos (le_max_right _ _))
  have hm : max ((Spec.count I : ℝ) : EReal) 1 = ((max (Spec.count I : ℝ) 1 : ℝ) : EReal) := by
    rw [← EReal.coe_one]; exact (EReal.coe_strictMono.monotone.map_max).symm
  rw [e, positives h, sitofp_count, hm, Ideal.div_coe p, ← EReal.coe_mul, Spec.loss]
  refine congrArg _ ?_
  simp only [Finset.sum_neg_distrib]
  ring

omit h in
/-- The mean of two losses. -/
theorem mean_at (s t : FVec Ideal S_ .f32) (a b : ℝ) (hs : (s ix0 : EReal) = a) (ht : (t ix0 : EReal) = b) :
    (mean s t ix0 : EReal) = (((a + b) / 2 : ℝ) : EReal) := by
  pointwise [mean]
  rw [Fin.sum_univ_one, Fin.sum_univ_one, hs, ht, two, ← EReal.coe_add, Ideal.div_coe (by norm_num), ← EReal.coe_mul]
  congr 1; ring

end Cert.Proof.RefValue

end
-- ==== Proof.RefInputs.lean ====
/-
  What the reference reads of its arguments: the two images, each with its scores clipped (which leaves them).
-/
module

public import proofs.«01_k».proof.Proof.RefMasks
public import proofs.«01_k».proof.Proof.Inputs

@[expose] public section

set_option maxRecDepth 16384

noncomputable section

namespace Cert.Proof.RefInputs

open Cert.ReferenceIdeal Cert.ReferenceIdeal.Gen Cert.ReferenceIdeal.Value
open Idealize.ShloMosaic Cert.Proof.Tables Cert.Proof.Spec Cert.Proof.Words

variable [Cert.Pre_drawn.Facts] (V0 : Valuation τ sig (Elt Ideal)) (Q : FVec Ideal S2x5456x4 .f32)
  (R : FVec Ideal S2x3x512x512 .f32) (s : IVec S_ 32)
  (h : Inputs.Drawn (V0 (Proc.devRef .tc main_arg0)) Q (V0 (Proc.devRef .tc main_arg2)) R (V0 (Proc.devRef .tc main_arg4))
    (V0 (Proc.devRef .tc main_arg5)) s) (I : Image)

theorem ann_0 (a : Fin 8) (k : Fin 5) : (res_main_v4 V0 : FVec Ideal S8x5 .f32) (ix2 a k)
    = (V0 (Proc.devRef .tc main_arg2) : FVec Ideal S2x8x5 .f32) (ix3 0 a k) := by
  pointwise [res_main_v4]
theorem ann_1 (a : Fin 8) (k : Fin 5) : (res_main_v217 V0 : FVec Ideal S8x5 .f32) (ix2 a k)
    = (V0 (Proc.devRef .tc main_arg2) : FVec Ideal S2x8x5 .f32) (ix3 1 a k) := by
  pointwise [res_main_v217]

theorem cls_0 (n : Fin 5456) (c : Fin 80) : ((res_main_v2 V0 : FVec Ideal S5456x80 .f32) (ix2 n c) : EReal)
    = min (Ideal.ofBits .f32 1065351538#32) (max (Ideal.ofBits .f32 953267991#32)
        ((V0 (Proc.devRef .tc main_arg0) : FVec Ideal S2x5456x80 .f32) (ix3 0 n c) : EReal)) := by
  pointwise [res_main_v2, id_eq]
theorem cls_1 (n : Fin 5456) (c : Fin 80) : ((res_main_v215 V0 : FVec Ideal S5456x80 .f32) (ix2 n c) : EReal)
    = min (Ideal.ofBits .f32 1065351538#32) (max (Ideal.ofBits .f32 953267991#32)
        ((V0 (Proc.devRef .tc main_arg0) : FVec Ideal S2x5456x80 .f32) (ix3 1 n c) : EReal)) := by
  pointwise [res_main_v215, id_eq]

include h

theorem holds_0 (hI : Inputs.IsImage (V0 (Proc.devRef .tc main_arg0)) (V0 (Proc.devRef .tc main_arg2)) 0 I) :
    RefMasks.Holds I (res_main_v4 V0) (res_main_v2 V0) (V0 (Proc.devRef .tc main_arg4)) (V0 (Proc.devRef .tc main_arg5)) :=
  ⟨fun a i => (ann_0 V0 a _).trans (hI.box a i), fun a => (ann_0 V0 a 4).trans (hI.lab a),
    fun n c => ((cls_0 V0 n c).trans (Inputs.clip_eq h 0 n c)).trans (hI.score n c), Inputs.x_word h, Inputs.y_word h⟩
theorem holds_1 (hI : Inputs.IsImage (V0 (Proc.devRef .tc main_arg0)) (V0 (Proc.devRef .tc main_arg2)) 1 I) :
    RefMasks.Holds I (res_main_v217 V0) (res_main_v215 V0) (V0 (Proc.devRef .tc main_arg4)) (V0 (Proc.devRef .tc main_arg5)) :=
  ⟨fun a i => (ann_1 V0 a _).trans (hI.box a i), fun a => (ann_1 V0 a 4).trans (hI.lab a),
    fun n c => ((cls_1 V0 n c).trans (Inputs.clip_eq h 1 n c)).trans (hI.score n c), Inputs.x_word h, Inputs.y_word h⟩

end Cert.Proof.RefInputs

end
-- ==== Proof.Equality.lean ====
/-
  The kernel's result and the reference's are the same number: the mean of the two images' losses.
-/
module

public import proofs.«01_k».proof.Defs
public import proofs.«01_k».proof.Proof.Gen.Kernel
public import proofs.«01_k».proof.Proof.Gen.Pre_drawn
public import proofs.«01_k».proof.Proof.KernelValue
public import proofs.«01_k».proof.Proof.KernelInputs
public import proofs.«01_k».proof.Proof.RefValue
public import proofs.«01_k».proof.Proof.RefInputs

@[expose] public section

set_option maxRecDepth 16384

noncomputable section

namespace Cert.Proof.Equality

open Idealize.ShloMosaic Idealize.ShloMosaic.TcCoe Idealize.SL.Sem Cert.Proof.Spec

section Kernel

open Cert.KernelIdeal Cert.KernelIdeal.Gen

variable (m : (ℓ : Loc nD τ sig) → Buf (Elt Ideal) ℓ) (c : Dev nD)

/-- The kernel's result: each image adds half its loss. -/
theorem kernel_at (I J : Image)
    (hI : Inputs.IsImage (m ((c : Thread nD τ).loc main_arg0)) (m ((c : Thread nD τ).loc main_arg2)) 0 I)
    (hJ : Inputs.IsImage (m ((c : Thread nD τ).loc main_arg0)) (m ((c : Thread nD τ).loc main_arg2)) 1 J) :
    (shapeCast S_ (KernelRun.second m c) shapeCasts_S1x1_S_ : FVec Ideal S_ .f32)
      = fun _ => (((Spec.loss I + Spec.loss J) / 2 : ℝ) : EReal) := by
  funext i
  obtain rfl : i = ix0 := Subsingleton.elim _ _
  have e0 := KernelValue.result_zero (KernelInputs.holds m c t0_0 0 KernelRun.coord_0 I hI)
    (fun _ => Scalar.ofBits (F := Ideal) .f32 0x00000000#32)
  have e1 := KernelValue.result_one (KernelInputs.holds m c t0_1 1 KernelRun.coord_1 J hJ) (KernelRun.first m c) _ e0
  have e : (shapeCast S_ (KernelRun.second m c) shapeCasts_S1x1_S_ : FVec Ideal S_ .f32) ix0
      = KernelRun.second m c (ix2 0 0) := by
    pointwise
  refine e.trans (Eq.trans e1 ?_)
  exact congrArg _ (by ring)

end Kernel

section Reference

open Cert.ReferenceIdeal Cert.ReferenceIdeal.Gen Cert.ReferenceIdeal.Value

variable [Cert.Pre_drawn.Facts] (V0 : Valuation τ sig (Elt Ideal)) (P : FVec Ideal S2x5456x80 .f32)
  (Q : FVec Ideal S2x5456x4 .f32) (B : FVec Ideal S2x8x5 .f32) (R : FVec Ideal S2x3x512x512 .f32) (X Y : IVec S5456 32)
  (s : IVec S_ 32) (h : Inputs.Drawn P Q B R X Y s) (eP : V0 (Proc.devRef .tc main_arg0) = P)
  (eB : V0 (Proc.devRef .tc main_arg2) = B) (eX : V0 (Proc.devRef .tc main_arg4) = X)
  (eY : V0 (Proc.devRef .tc main_arg5) = Y)

include h eP eB eX eY

/-- The reference's result. -/
theorem reference_at (I J : Image)
    (hI : Inputs.IsImage P B 0 I) (hJ : Inputs.IsImage P B 1 J) :
    RefBlock.mean (RefBlock.loss (res_main_v2 V0) (res_main_v176 V0)) (RefBlock.loss (res_main_v215 V0) (res_main_v389 V0))
      = fun _ => (((Spec.loss I + Spec.loss J) / 2 : ℝ) : EReal) := by
  subst eP eB eX eY
  funext i
  obtain rfl : i = ix0 := Subsingleton.elim _ _
  rw [RefBlock.target_0, RefBlock.target_1]
  exact RefValue.mean_at _ _ _ _ (RefValue.loss_at (RefInputs.holds_0 V0 Q R s h I hI))
    (RefValue.loss_at (RefInputs.holds_1 V0 Q R s h J hJ))

end Reference

/-- The kernel's program and the reference's leave the same result and their arguments unchanged. -/
theorem algebraic : Cert.algebraic_KernelIdeal_ReferenceIdeal_pre_drawn := by
  intro m g m' g' hpre hargs
  refine ⟨fun c => shapeCast _ (KernelRun.second m c) Cert.KernelIdeal.Gen.shapeCasts_S1x1_S_, ?_, ?_⟩
  · exact (θ_run Cert.KernelIdeal.defs _ _).mono (fun r hr c => ⟨hr.1 c, hr.2.1 c⟩)
      (θ_run_and (KernelRun.value m g) (KernelRun.frame m g))
  · refine (θ_run Cert.ReferenceIdeal.defs _ _).mono (fun r hr c => ?_) (RefBlock.run (F := Ideal) m' g')
    obtain ⟨e0, _, e2, _, e4, e5, _⟩ := hargs c
    have hd : Inputs.Drawn (m ((c : Thread Cert.KernelIdeal.nD Cert.KernelIdeal.τ).loc Cert.KernelIdeal.main_arg0)) _
      (m ((c : Thread Cert.KernelIdeal.nD Cert.KernelIdeal.τ).loc Cert.KernelIdeal.main_arg2)) _
      (m ((c : Thread Cert.KernelIdeal.nD Cert.KernelIdeal.τ).loc Cert.KernelIdeal.main_arg4))
      (m ((c : Thread Cert.KernelIdeal.nD Cert.KernelIdeal.τ).loc Cert.KernelIdeal.main_arg5)) _ := hpre c
    obtain ⟨I, hI⟩ := Inputs.exists_image hd 0
    obtain ⟨J, hJ⟩ := Inputs.exists_image hd 1
    refine ⟨(hr c).1.trans ?_, (hr c).2⟩
    exact (reference_at _ _ _ _ _ _ _ _ hd e0 e2 e4 e5 I J hI hJ).trans (kernel_at m c I J hI hJ).symm

end Cert.Proof.Equality

end
-- ==== Proof.SameProgram.lean ====
/-
  The program as printed and its idealized form are one program, since no operation was rewritten: the same tables, body
  and schedule. So what is proved of the runs of one, at every interpretation of floats, holds of the other.
-/
module

public import proofs.«01_k».proof.Proof.Gen.Kernel
public import proofs.«01_k».proof.Proof.KernelRun

@[expose] public section

set_option maxRecDepth 65536
set_option maxHeartbeats 4000000

noncomputable section

namespace Cert.Proof.SameProgram

open Idealize.ShloMosaic Idealize.SL.Sem

theorem scales_same : Cert.Kernel.lit0 = Cert.KernelIdeal.lit0 := rfl
theorem coordinates_same : Cert.Kernel.lit1t = Cert.KernelIdeal.lit1t := rfl
theorem levels_same : Cert.Kernel.lit2t = Cert.KernelIdeal.lit2t := rfl

variable {F : FTy → Type} [FloatOps F]

theorem body_same : Cert.Kernel.cc0__focal_kernel (F := F) = Cert.KernelIdeal.cc0__focal_kernel (F := F) := rfl

theorem bodies_same : Cert.Kernel.defs₀ (F := F) = Cert.KernelIdeal.defs₀ (F := F) := by
  unfold Cert.Kernel.defs₀ Cert.KernelIdeal.defs₀
  refine congrArg Defs.onTc (funext fun l => funext fun a => ?_)
  fin_cases l
  obtain ⟨t, s⟩ := a
  exact congrFun (congrFun (congrFun (congrFun (congrFun (congrFun (congrFun (congrFun (congrFun (congrFun (congrFun
    (congrFun (congrFun (congrFun (congrFun body_same _) _) _) _) _) _) _) _) _) _) _) _) _) _) _

theorem defs_same : Cert.Kernel.defs (F := F) = Cert.KernelIdeal.defs (F := F) := by
  unfold Cert.Kernel.defs Cert.KernelIdeal.defs
  exact congrArg (Pipeline.defs Cert.KernelIdeal.pcfgs) bodies_same

theorem main_same : Cert.Kernel.main (F := F) = Cert.KernelIdeal.main (F := F) := by
  unfold Cert.Kernel.main
  rw [scales_same]
  simp only [Cert.Kernel.lit1, Cert.Kernel.lit2, coordinates_same, levels_same]
  rfl

open Cert.Kernel in
/-- The program's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_same, main_same]
  exact KernelRun.frame m ρ

end Cert.Proof.SameProgram

end
-- ==== Proof.lean ====
/-
  The certificate: the programs run to their ends and leave their arguments as found, and the kernel's result is the
  reference's over the extended reals.
-/
module

public import proofs.«01_k».proof.Defs
public import proofs.«01_k».proof.Proof.Gen.Kernel
public import proofs.«01_k».proof.Proof.Equality
public import proofs.«01_k».proof.Proof.SameProgram
public import Idealize.ShloMosaic.Lib.Quiescent

@[expose] public section

noncomputable section

namespace Cert.Proof

open Idealize.ShloMosaic Idealize.SL.Sem

/-- The reference runs host operations alone: no counter exists, so all read zero at the end. -/
theorem frame_ri : Cert.quiescent_ReferenceIdeal := fun m ρ _ =>
  (θ_run Cert.ReferenceIdeal.defs _ _).mono (fun r h => ⟨fun c => (h c).2, sem_eq_zero_of_no_sems (by decide) r.2⟩)
    (RefBlock.run (F := Ideal) m ρ)

theorem claim : Cert.Claim :=
  ⟨Cert.Kernel.Gen.facts, Cert.KernelIdeal.Gen.facts, Cert.ReferenceIdeal.Gen.facts, Cert.Pre_drawn.Gen.facts,
    fun m ρ _ => SameProgram.frame m ρ, fun m ρ _ => KernelRun.frame m ρ, fun m ρ _ => KernelRun.frame m ρ,
    frame_ri, fun m ρ _ => frame_ri m ρ trivial, trivial, Equality.algebraic⟩

end Cert.Proof

end
